-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S4194304 : Shape := ⟨1, ![4194304]⟩
abbrev S32x2097152 : Shape := ⟨2, ![32, 2097152]⟩
abbrev S2x2048 : Shape := ⟨2, ![2, 2048]⟩
abbrev S2x16x2048 : Shape := ⟨3, ![2, 16, 2048]⟩
abbrev S2 : Shape := ⟨1, ![2]⟩
abbrev S16 : Shape := ⟨1, ![16]⟩
abbrev S1x1x16 : Shape := ⟨3, ![1, 1, 16]⟩
abbrev S1x2048 : Shape := ⟨2, ![1, 2048]⟩
abbrev S2048 : Shape := ⟨1, ![2048]⟩
abbrev S1 : Shape := ⟨1, ![1]⟩
abbrev S_ : Shape := ⟨0, ![]⟩
abbrev S1x16x2048 : Shape := ⟨3, ![1, 16, 2048]⟩
abbrev S16x2048 : Shape := ⟨2, ![16, 2048]⟩
abbrev S1x16 : Shape := ⟨2, ![1, 16]⟩
abbrev S2x16x2048x1024 : Shape := ⟨4, ![2, 16, 2048, 1024]⟩

abbrev nBuf : Table → Nat
  | .hbm => 4
  | .local .scVector .vmem => 2
  | _ => 0

abbrev bufTy : (tb : Table) → Fin (nBuf tb) → BufTy
  | .hbm, ⟨0, _⟩ => ⟨S2x2048x1024, .f32⟩
  | .hbm, ⟨1, _⟩ => ⟨S4194304, .f32⟩
  | .hbm, ⟨2, _⟩ => ⟨S32x2097152, .f32⟩
  | .hbm, ⟨3, _⟩ => ⟨S2x16x2048x1024, .f32⟩
  | .local .scVector .vmem, ⟨0, _⟩ => ⟨S2x2048, .f32⟩
  | .local .scVector .vmem, ⟨1, _⟩ => ⟨S2x16x2048, .f32⟩
  | _, _ => ⟨S2x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c128_i32 : BitVec 32 := 128#32
  let v4 : BitVec 32 := Scalar.addi c0_i32_1 c128_i32
  let c1_i32 : BitVec 32 := 1#32
  ⟨c0_i32_1, v4, c1_i32⟩
def k0_off1 (k0_t1 : Fin k0_t1_loop.trips) : Fin 3 → Nat :=
  let c0_i32_45 : BitVec 32 := 0#32
  let v88 : Index := Scalar.indexCast c0_i32_45
  let c11_i32 : BitVec 32 := 11#32
  let v89 : Index := Scalar.indexCast c11_i32
  let c0_i32_1 : BitVec 32 := 0#32
  let c1_i32 : BitVec 32 := 1#32
  let arg8 : BitVec 32 := Scf.iv c0_i32_1 c1_i32 k0_t1
  let c16_i32_44 : BitVec 32 := 16#32
  let v87 : BitVec 32 := Scalar.muli arg8 c16_i32_44
  let v90 : Index := Scalar.indexCast v87
  ![0, 11, v90.toNat]
def k0_off2 (k0_t1 : Fin k0_t1_loop.trips) : Fin 3 → Nat :=
  let c0_i32_47 : BitVec 32 := 0#32
  let v95 : Index := Scalar.indexCast c0_i32_47
  let c12_i32 : BitVec 32 := 12#32
  let v96 : Index := Scalar.indexCast c12_i32
  let c0_i32_1 : BitVec 32 := 0#32
  let c1_i32 : BitVec 32 := 1#32
  let arg8 : BitVec 32 := Scf.iv c0_i32_1 c1_i32 k0_t1
  let c16_i32_46 : BitVec 32 := 16#32
  let v94 : BitVec 32 := Scalar.muli arg8 c16_i32_46
  let v97 : Index := Scalar.indexCast v94
  ![0, 12, v97.toNat]
def k0_off3 (k0_t1 : Fin k0_t1_loop.trips) : Fin 3 → Nat :=
  let c0_i32_49 : BitVec 32 := 0#32
  let v102 : Index := Scalar.indexCast c0_i32_49
  let c13_i32 : BitVec 32 := 13#32
  let v103 : Index := Scalar.indexCast c13_i32
  let c0_i32_1 : BitVec 32 := 0#32
  let c1_i32 : BitVec 32 := 1#32
  let arg8 : BitVec 32 := Scf.iv c0_i32_1 c1_i32 k0_t1
  let c16_i32_48 : BitVec 32 := 16#32
  let v101 : BitVec 32 := Scalar.muli arg8 c16_i32_48
  let v104 : Index := Scalar.indexCast v101
  ![0, 13, v104.toNat]
def k0_off4 (k0_t1 : Fin k0_t1_loop.trips) : Fin 3 → Nat :=
  let c0_i32_51 : BitVec 32 := 0#32
  let v109 : Index := Scalar.indexCast c0_i32_51
  let c14_i32 : BitVec 32 := 14#32
  let v110 : Index := Scalar.indexCast c14_i32
  let c0_i32_1 : BitVec 32 := 0#32
  let c1_i32 : BitVec 32 := 1#32
  let arg8 : BitVec 32 := Scf.iv c0_i32_1 c1_i32 k0_t1
  let c16_i32_50 : BitVec 32 := 16#32
  let v108 : BitVec 32 := Scalar.muli arg8 c16_i32_50
  let v111 : Index := Scalar.indexCast v108
  ![0, 14, v111.toNat]
def k0_off5 (k0_t1 : Fin k0_t1_loop.trips) : Fin 3 → Nat :=
  let c0_i32_53 : BitVec 32 := 0#32
  let v116 : Index := Scalar.indexCast c0_i32_53
  let c15_i32 : BitVec 32 := 15#32
  let v117 : Index := Scalar.indexCast c15_i32
  let c0_i32_1 : BitVec 32 := 0#32
  let c1_i32 : BitVec 32 := 1#32
  let arg8 : BitVec 32 := Scf.iv c0_i32_1 c1_i32 k0_t1
  let c16_i32_52 : BitVec 32 := 16#32
  let v115 : BitVec 32 := Scalar.muli arg8 c16_i32_52
  let v118 : Index := Scalar.indexCast v115
  ![0, 15, v118.toNat]
def k0_off6 (k0_t1 : Fin k0_t1_loop.trips) : Fin 3 → Nat :=
  let c1_i32_55 : BitVec 32 := 1#32
  let v123 : Index := Scalar.indexCast c1_i32_55
  let c11_i32_56 : BitVec 32 := 11#32
  let v124 : Index := Scalar.indexCast c11_i32_56
  let c0_i32_1 : BitVec 32 := 0#32
  let c1_i32 : BitVec 32 := 1#32
  let arg8 : BitVec 32 := Scf.iv c0_i32_1 c1_i32 k0_t1
  let c16_i32_54 : BitVec 32 := 16#32
  let v122 : BitVec 32 := Scalar.muli arg8 c16_i32_54
  let v125 : Index := Scalar.indexCast v122
  ![1, 11, v125.toNat]
def k0_off7 (k0_t1 : Fin k0_t1_loop.trips) : Fin 3 → Nat :=
  let c1_i32_58 : BitVec 32 := 1#32
  let v130 : Index := Scalar.indexCast c1_i32_58
  let c12_i32_59 : BitVec 32 := 12#32
  let v131 : Index := Scalar.indexCast c12_i32_59
  let c0_i32_1 : BitVec 32 := 0#32
  let c1_i32 : BitVec 32 := 1#32
  let arg8 : BitVec 32 := Scf.iv c0_i32_1 c1_i32 k0_t1
  let c16_i32_57 : BitVec 32 := 16#32
  let v129 : BitVec 32 := Scalar.muli arg8 c16_i32_57
  let v132 : Index := Scalar.indexCast v129
  ![1, 12, v132.toNat]
def k0_off8 (k0_t1 : Fin k0_t1_loop.trips) : Fin 3 → Nat :=
  let c1_i32_61 : BitVec 32 := 1#32
  let v137 : Index := Scalar.indexCast c1_i32_61
  let c13_i32_62 : BitVec 32 := 13#32
  let v138 : Index := Scalar.indexCast c13_i32_62
  let c0_i32_1 : BitVec 32 := 0#32
  let c1_i32 : BitVec 32 := 1#32
  let arg8 : BitVec 32 := Scf.iv c0_i32_1 c1_i32 k0_t1
  let c16_i32_60 : BitVec 32 := 16#32
  let v136 : BitVec 32 := Scalar.muli arg8 c16_i32_60
  let v139 : Index := Scalar.indexCast v136
  ![1, 13, v139.toNat]
def k0_off9 (k0_t1 : Fin k0_t1_loop.trips) : Fin 3 → Nat :=
  let c1_i32_64 : BitVec 32 := 1#32
  let v144 : Index := Scalar.indexCast c1_i32_64
  let c14_i32_65 : BitVec 32 := 14#32
  let v145 : Index := Scalar.indexCast c14_i32_65
  let c0_i32_1 : BitVec 32 := 0#32
  let c1_i32 : BitVec 32 := 1#32
  let arg8 : BitVec 32 := Scf.iv c0_i32_1 c1_i32 k0_t1
  let c16_i32_63 : BitVec 32 := 16#32
  let v143 : BitVec 32 := Scalar.muli arg8 c16_i32_63
  let v146 : Index := Scalar.indexCast v143
  ![1, 14, v146.toNat]
def k0_off10 (k0_t1 : Fin k0_t1_loop.trips) : Fin 3 → Nat :=
  let c1_i32_67 : BitVec 32 := 1#32
  let v151 : Index := Scalar.indexCast c1_i32_67
  let c15_i32_68 : BitVec 32 := 15#32
  let v152 : Index := Scalar.indexCast c15_i32_68
  let c0_i32_1 : BitVec 32 := 0#32
  let c1_i32 : BitVec 32 := 1#32
  let arg8 : BitVec 32 := Scf.iv c0_i32_1 c1_i32 k0_t1
  let c16_i32_66 : BitVec 32 := 16#32
  let v150 : BitVec 32 := Scalar.muli arg8 c16_i32_66
  let v153 : Index := Scalar.indexCast v150
  ![1, 15, v153.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_3 : BitVec 32 := 0#32
  let v6 : BitVec 32 := Scalar.addi v5 c0_i32_3
  v6
def k0_off11 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let v6 : BitVec 32 := Scalar.addi v5 c0_i32_3
  let v7 : BitVec 32 := v6
  ![v7.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c2048_i32 : BitVec 32 := 2048#32
  let v16 : BitVec 32 := Scalar.addi v5 c2048_i32
  v16
@[reducible] def k0_t2_loop : Scf.Loop 32 :=
  let c0_i32_13 : BitVec 32 := 0#32
  let c32_i32 : BitVec 32 := 32#32
  let v26 : BitVec 32 := Scalar.addi c0_i32_13 c32_i32
  let c1_i32_14 : BitVec 32 := 1#32
  ⟨c0_i32_13, v26, c1_i32_14⟩
def k0_mult3 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2048_i32_46 : BitVec 32 := 2048#32
  let v89 : BitVec 32 := Scalar.muli v88 c2048_i32_46
  let v90 : BitVec 32 := Scalar.addi v5 v89
  v90
def k0_off12 (i : grid0.Coords) (k0_t2 : Fin k0_t2_loop.trips) (c0_i32_45 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let v88 : BitVec 32 := Scalar.addi v87 c0_i32_45
  let c2048_i32_46 : BitVec 32 := 2048#32
  let v89 : BitVec 32 := Scalar.muli v88 c2048_i32_46
  let v90 : BitVec 32 := Scalar.addi v5 v89
  let v91 : BitVec 32 := v90
  ![v91.toNat]
def k0_cond1 (k0_t2 : Fin k0_t2_loop.trips) : BitVec 1 :=
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2_i32_51 : BitVec 32 := 2#32
  let v100 : BitVec 1 := Scalar.cmpi .sge v88 c2_i32_51
  let v101 : BitVec 32 := Scalar.extui v100
  let c0_i32_52 : BitVec 32 := 0#32
  let v102 : BitVec 1 := Scalar.cmpi .ne v101 c0_i32_52
  v102

def k0_mult4 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2_i32_109 : BitVec 32 := 2#32
  let v191 : BitVec 32 := Scalar.subi v88 c2_i32_109
  let c2048_i32_110 : BitVec 32 := 2048#32
  let v192 : BitVec 32 := Scalar.muli v191 c2048_i32_110
  let v193 : BitVec 32 := Scalar.addi v5 v192
  let c0_i32_112 : BitVec 32 := 0#32
  let v195 : BitVec 1 := Scalar.cmpi .sgt v193 c0_i32_112
  let v196 : BitVec 32 := Scalar.extui v195
  let c0_i32_113 : BitVec 32 := 0#32
  let v197 : BitVec 1 := Scalar.cmpi .slt v193 c0_i32_113
  let v198 : BitVec 32 := Scalar.extui v197
  let v199 : BitVec 32 := Scalar.subi v196 v198
  let c2097152_i32_111 : BitVec 32 := 2097152#32
  let c0_i32_114 : BitVec 32 := 0#32
  let v200 : BitVec 1 := Scalar.cmpi .sgt c2097152_i32_111 c0_i32_114
  let v201 : BitVec 32 := Scalar.extui v200
  let c0_i32_115 : BitVec 32 := 0#32
  let v202 : BitVec 1 := Scalar.cmpi .slt c2097152_i32_111 c0_i32_115
  let v203 : BitVec 32 := Scalar.extui v202
  let v204 : BitVec 32 := Scalar.subi v201 v203
  let v205 : BitVec 1 := Scalar.cmpi .ne v199 v204
  let v206 : BitVec 32 := Scalar.remsi v193 c2097152_i32_111
  let c0_i32_116 : BitVec 32 := 0#32
  let v207 : BitVec 1 := Scalar.cmpi .ne v206 c0_i32_116
  let v208 : BitVec 1 := Scalar.andi v205 v207
  let v194 : BitVec 32 := Scalar.divsi v193 c2097152_i32_111
  let c1_i32_117 : BitVec 32 := 1#32
  let v209 : BitVec 32 := Scalar.subi v194 c1_i32_117
  let v210 : BitVec 32 := Scalar.select v208 v209 v194
  let c2097152_i32_118 : BitVec 32 := 2097152#32
  let v211 : BitVec 32 := Scalar.muli v210 c2097152_i32_118
  let v212 : BitVec 32 := Scalar.subi v193 v211
  v212
def k0_off13 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2_i32_109 : BitVec 32 := 2#32
  let v191 : BitVec 32 := Scalar.subi v88 c2_i32_109
  let c2048_i32_110 : BitVec 32 := 2048#32
  let v192 : BitVec 32 := Scalar.muli v191 c2048_i32_110
  let v193 : BitVec 32 := Scalar.addi v5 v192
  let c0_i32_112 : BitVec 32 := 0#32
  let v195 : BitVec 1 := Scalar.cmpi .sgt v193 c0_i32_112
  let v196 : BitVec 32 := Scalar.extui v195
  let c0_i32_113 : BitVec 32 := 0#32
  let v197 : BitVec 1 := Scalar.cmpi .slt v193 c0_i32_113
  let v198 : BitVec 32 := Scalar.extui v197
  let v199 : BitVec 32 := Scalar.subi v196 v198
  let c2097152_i32_111 : BitVec 32 := 2097152#32
  let c0_i32_114 : BitVec 32 := 0#32
  let v200 : BitVec 1 := Scalar.cmpi .sgt c2097152_i32_111 c0_i32_114
  let v201 : BitVec 32 := Scalar.extui v200
  let c0_i32_115 : BitVec 32 := 0#32
  let v202 : BitVec 1 := Scalar.cmpi .slt c2097152_i32_111 c0_i32_115
  let v203 : BitVec 32 := Scalar.extui v202
  let v204 : BitVec 32 := Scalar.subi v201 v203
  let v205 : BitVec 1 := Scalar.cmpi .ne v199 v204
  let v206 : BitVec 32 := Scalar.remsi v193 c2097152_i32_111
  let c0_i32_116 : BitVec 32 := 0#32
  let v207 : BitVec 1 := Scalar.cmpi .ne v206 c0_i32_116
  let v208 : BitVec 1 := Scalar.andi v205 v207
  let v194 : BitVec 32 := Scalar.divsi v193 c2097152_i32_111
  let c1_i32_117 : BitVec 32 := 1#32
  let v209 : BitVec 32 := Scalar.subi v194 c1_i32_117
  let v210 : BitVec 32 := Scalar.select v208 v209 v194
  let c16_i32_119 : BitVec 32 := 16#32
  let v214 : BitVec 32 := Scalar.muli v210 c16_i32_119
  let c2097152_i32_118 : BitVec 32 := 2097152#32
  let v211 : BitVec 32 := Scalar.muli v210 c2097152_i32_118
  let v212 : BitVec 32 := Scalar.subi v193 v211
  let v213 : BitVec 32 := v212
  ![v214.toNat, v213.toNat]
@[reducible] def k0_t3_loop : Scf.Loop 32 :=
  let c0_i32_54 : BitVec 32 := 0#32
  let c128_i32_55 : BitVec 32 := 128#32
  let v103 : BitVec 32 := Scalar.addi c0_i32_54 c128_i32_55
  let c1_i32_56 : BitVec 32 := 1#32
  ⟨c0_i32_54, v103, c1_i32_56⟩
def k0_off14 (k0_t3 : Fin k0_t3_loop.trips) : Fin 2 → Nat :=
  let c0_i32_110 : BitVec 32 := 0#32
  let v192 : Index := Scalar.indexCast c0_i32_110
  let c0_i32_54 : BitVec 32 := 0#32
  let c1_i32_56 : BitVec 32 := 1#32
  let arg9 : BitVec 32 := Scf.iv c0_i32_54 c1_i32_56 k0_t3
  let c16_i32_109 : BitVec 32 := 16#32
  let v191 : BitVec 32 := Scalar.muli arg9 c16_i32_109
  let v193 : Index := Scalar.indexCast v191
  ![0, v193.toNat]
def k0_off15 (k0_t3 : Fin k0_t3_loop.trips) : Fin 3 → Nat :=
  let c0_i32_118 : BitVec 32 := 0#32
  let v212 : Index := Scalar.indexCast c0_i32_118
  let c0_i32_119 : BitVec 32 := 0#32
  let v213 : Index := Scalar.indexCast c0_i32_119
  let c0_i32_54 : BitVec 32 := 0#32
  let c1_i32_56 : BitVec 32 := 1#32
  let arg9 : BitVec 32 := Scf.iv c0_i32_54 c1_i32_56 k0_t3
  let c16_i32_117 : BitVec 32 := 16#32
  let v211 : BitVec 32 := Scalar.muli arg9 c16_i32_117
  let v214 : Index := Scalar.indexCast v211
  ![0, 0, v214.toNat]
def k0_off16 (k0_t3 : Fin k0_t3_loop.trips) : Fin 3 → Nat :=
  let c0_i32_122 : BitVec 32 := 0#32
  let v222 : Index := Scalar.indexCast c0_i32_122
  let c1_i32_123 : BitVec 32 := 1#32
  let v223 : Index := Scalar.indexCast c1_i32_123
  let c0_i32_54 : BitVec 32 := 0#32
  let c1_i32_56 : BitVec 32 := 1#32
  let arg9 : BitVec 32 := Scf.iv c0_i32_54 c1_i32_56 k0_t3
  let c16_i32_121 : BitVec 32 := 16#32
  let v221 : BitVec 32 := Scalar.muli arg9 c16_i32_121
  let v224 : Index := Scalar.indexCast v221
  ![0, 1, v224.toNat]
def k0_off17 (k0_t3 : Fin k0_t3_loop.trips) : Fin 3 → Nat :=
  let c0_i32_126 : BitVec 32 := 0#32
  let v232 : Index := Scalar.indexCast c0_i32_126
  let c2_i32_127 : BitVec 32 := 2#32
  let v233 : Index := Scalar.indexCast c2_i32_127
  let c0_i32_54 : BitVec 32 := 0#32
  let c1_i32_56 : BitVec 32 := 1#32
  let arg9 : BitVec 32 := Scf.iv c0_i32_54 c1_i32_56 k0_t3
  let c16_i32_125 : BitVec 32 := 16#32
  let v231 : BitVec 32 := Scalar.muli arg9 c16_i32_125
  let v234 : Index := Scalar.indexCast v231
  ![0, 2, v234.toNat]
def k0_off18 (k0_t3 : Fin k0_t3_loop.trips) : Fin 3 → Nat :=
  let c0_i32_130 : BitVec 32 := 0#32
  let v242 : Index := Scalar.indexCast c0_i32_130
  let c3_i32 : BitVec 32 := 3#32
  let v243 : Index := Scalar.indexCast c3_i32
  let c0_i32_54 : BitVec 32 := 0#32
  let c1_i32_56 : BitVec 32 := 1#32
  let arg9 : BitVec 32 := Scf.iv c0_i32_54 c1_i32_56 k0_t3
  let c16_i32_129 : BitVec 32 := 16#32
  let v241 : BitVec 32 := Scalar.muli arg9 c16_i32_129
  let v244 : Index := Scalar.indexCast v241
  ![0, 3, v244.toNat]
def k0_off19 (k0_t3 : Fin k0_t3_loop.trips) : Fin 3 → Nat :=
  let c0_i32_133 : BitVec 32 := 0#32
  let v252 : Index := Scalar.indexCast c0_i32_133
  let c4_i32 : BitVec 32 := 4#32
  let v253 : Index := Scalar.indexCast c4_i32
  let c0_i32_54 : BitVec 32 := 0#32
  let c1_i32_56 : BitVec 32 := 1#32
  let arg9 : BitVec 32 := Scf.iv c0_i32_54 c1_i32_56 k0_t3
  let c16_i32_132 : BitVec 32 := 16#32
  let v251 : BitVec 32 := Scalar.muli arg9 c16_i32_132
  let v254 : Index := Scalar.indexCast v251
  ![0, 4, v254.toNat]
def k0_off20 (k0_t3 : Fin k0_t3_loop.trips) : Fin 3 → Nat :=
  let c0_i32_136 : BitVec 32 := 0#32
  let v262 : Index := Scalar.indexCast c0_i32_136
  let c5_i32 : BitVec 32 := 5#32
  let v263 : Index := Scalar.indexCast c5_i32
  let c0_i32_54 : BitVec 32 := 0#32
  let c1_i32_56 : BitVec 32 := 1#32
  let arg9 : BitVec 32 := Scf.iv c0_i32_54 c1_i32_56 k0_t3
  let c16_i32_135 : BitVec 32 := 16#32
  let v261 : BitVec 32 := Scalar.muli arg9 c16_i32_135
  let v264 : Index := Scalar.indexCast v261
  ![0, 5, v264.toNat]
def k0_off21 (k0_t3 : Fin k0_t3_loop.trips) : Fin 3 → Nat :=
  let c0_i32_139 : BitVec 32 := 0#32
  let v272 : Index := Scalar.indexCast c0_i32_139
  let c6_i32 : BitVec 32 := 6#32
  let v273 : Index := Scalar.indexCast c6_i32
  let c0_i32_54 : BitVec 32 := 0#32
  let c1_i32_56 : BitVec 32 := 1#32
  let arg9 : BitVec 32 := Scf.iv c0_i32_54 c1_i32_56 k0_t3
  let c16_i32_138 : BitVec 32 := 16#32
  let v271 : BitVec 32 := Scalar.muli arg9 c16_i32_138
  let v274 : Index := Scalar.indexCast v271
  ![0, 6, v274.toNat]
def k0_off22 (k0_t3 : Fin k0_t3_loop.trips) : Fin 3 → Nat :=
  let c0_i32_142 : BitVec 32 := 0#32
  let v282 : Index := Scalar.indexCast c0_i32_142
  let c7_i32 : BitVec 32 := 7#32
  let v283 : Index := Scalar.indexCast c7_i32
  let c0_i32_54 : BitVec 32 := 0#32
  let c1_i32_56 : BitVec 32 := 1#32
  let arg9 : BitVec 32 := Scf.iv c0_i32_54 c1_i32_56 k0_t3
  let c16_i32_141 : BitVec 32 := 16#32
  let v281 : BitVec 32 := Scalar.muli arg9 c16_i32_141
  let v284 : Index := Scalar.indexCast v281
  ![0, 7, v284.toNat]
def k0_off23 (k0_t3 : Fin k0_t3_loop.trips) : Fin 3 → Nat :=
  let c0_i32_145 : BitVec 32 := 0#32
  let v292 : Index := Scalar.indexCast c0_i32_145
  let c8_i32 : BitVec 32 := 8#32
  let v293 : Index := Scalar.indexCast c8_i32
  let c0_i32_54 : BitVec 32 := 0#32
  let c1_i32_56 : BitVec 32 := 1#32
  let arg9 : BitVec 32 := Scf.iv c0_i32_54 c1_i32_56 k0_t3
  let c16_i32_144 : BitVec 32 := 16#32
  let v291 : BitVec 32 := Scalar.muli arg9 c16_i32_144
  let v294 : Index := Scalar.indexCast v291
  ![0, 8, v294.toNat]
def k0_off24 (k0_t3 : Fin k0_t3_loop.trips) : Fin 3 → Nat :=
  let c0_i32_148 : BitVec 32 := 0#32
  let v302 : Index := Scalar.indexCast c0_i32_148
  let c9_i32 : BitVec 32 := 9#32
  let v303 : Index := Scalar.indexCast c9_i32
  let c0_i32_54 : BitVec 32 := 0#32
  let c1_i32_56 : BitVec 32 := 1#32
  let arg9 : BitVec 32 := Scf.iv c0_i32_54 c1_i32_56 k0_t3
  let c16_i32_147 : BitVec 32 := 16#32
  let v301 : BitVec 32 := Scalar.muli arg9 c16_i32_147
  let v304 : Index := Scalar.indexCast v301
  ![0, 9, v304.toNat]
def k0_off25 (k0_t3 : Fin k0_t3_loop.trips) : Fin 3 → Nat :=
  let c0_i32_151 : BitVec 32 := 0#32
  let v312 : Index := Scalar.indexCast c0_i32_151
  let c10_i32 : BitVec 32 := 10#32
  let v313 : Index := Scalar.indexCast c10_i32
  let c0_i32_54 : BitVec 32 := 0#32
  let c1_i32_56 : BitVec 32 := 1#32
  let arg9 : BitVec 32 := Scf.iv c0_i32_54 c1_i32_56 k0_t3
  let c16_i32_150 : BitVec 32 := 16#32
  let v311 : BitVec 32 := Scalar.muli arg9 c16_i32_150
  let v314 : Index := Scalar.indexCast v311
  ![0, 10, v314.toNat]
def k0_mult5 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2048_i32_58 : BitVec 32 := 2048#32
  let v104 : BitVec 32 := Scalar.muli v88 c2048_i32_58
  let v105 : BitVec 32 := Scalar.addi v5 v104
  let c0_i32_60 : BitVec 32 := 0#32
  let v107 : BitVec 1 := Scalar.cmpi .sgt v105 c0_i32_60
  let v108 : BitVec 32 := Scalar.extui v107
  let c0_i32_61 : BitVec 32 := 0#32
  let v109 : BitVec 1 := Scalar.cmpi .slt v105 c0_i32_61
  let v110 : BitVec 32 := Scalar.extui v109
  let v111 : BitVec 32 := Scalar.subi v108 v110
  let c2097152_i32_59 : BitVec 32 := 2097152#32
  let c0_i32_62 : BitVec 32 := 0#32
  let v112 : BitVec 1 := Scalar.cmpi .sgt c2097152_i32_59 c0_i32_62
  let v113 : BitVec 32 := Scalar.extui v112
  let c0_i32_63 : BitVec 32 := 0#32
  let v114 : BitVec 1 := Scalar.cmpi .slt c2097152_i32_59 c0_i32_63
  let v115 : BitVec 32 := Scalar.extui v114
  let v116 : BitVec 32 := Scalar.subi v113 v115
  let v117 : BitVec 1 := Scalar.cmpi .ne v111 v116
  let v118 : BitVec 32 := Scalar.remsi v105 c2097152_i32_59
  let c0_i32_64 : BitVec 32 := 0#32
  let v119 : BitVec 1 := Scalar.cmpi .ne v118 c0_i32_64
  let v120 : BitVec 1 := Scalar.andi v117 v119
  let v106 : BitVec 32 := Scalar.divsi v105 c2097152_i32_59
  let c1_i32_65 : BitVec 32 := 1#32
  let v121 : BitVec 32 := Scalar.subi v106 c1_i32_65
  let v122 : BitVec 32 := Scalar.select v120 v121 v106
  let c2097152_i32_66 : BitVec 32 := 2097152#32
  let v123 : BitVec 32 := Scalar.muli v122 c2097152_i32_66
  let v124 : BitVec 32 := Scalar.subi v105 v123
  v124
def k0_off26 (i : grid0.Coords) (k0_t2 : Fin k0_t2_loop.trips) (c0_i32_45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let v88 : BitVec 32 := Scalar.addi v87 c0_i32_45
  let c2048_i32_58 : BitVec 32 := 2048#32
  let v104 : BitVec 32 := Scalar.muli v88 c2048_i32_58
  let v105 : BitVec 32 := Scalar.addi v5 v104
  let c0_i32_60 : BitVec 32 := 0#32
  let v107 : BitVec 1 := Scalar.cmpi .sgt v105 c0_i32_60
  let v108 : BitVec 32 := Scalar.extui v107
  let c0_i32_61 : BitVec 32 := 0#32
  let v109 : BitVec 1 := Scalar.cmpi .slt v105 c0_i32_61
  let v110 : BitVec 32 := Scalar.extui v109
  let v111 : BitVec 32 := Scalar.subi v108 v110
  let c2097152_i32_59 : BitVec 32 := 2097152#32
  let c0_i32_62 : BitVec 32 := 0#32
  let v112 : BitVec 1 := Scalar.cmpi .sgt c2097152_i32_59 c0_i32_62
  let v113 : BitVec 32 := Scalar.extui v112
  let c0_i32_63 : BitVec 32 := 0#32
  let v114 : BitVec 1 := Scalar.cmpi .slt c2097152_i32_59 c0_i32_63
  let v115 : BitVec 32 := Scalar.extui v114
  let v116 : BitVec 32 := Scalar.subi v113 v115
  let v117 : BitVec 1 := Scalar.cmpi .ne v111 v116
  let v118 : BitVec 32 := Scalar.remsi v105 c2097152_i32_59
  let c0_i32_64 : BitVec 32 := 0#32
  let v119 : BitVec 1 := Scalar.cmpi .ne v118 c0_i32_64
  let v120 : BitVec 1 := Scalar.andi v117 v119
  let v106 : BitVec 32 := Scalar.divsi v105 c2097152_i32_59
  let c1_i32_65 : BitVec 32 := 1#32
  let v121 : BitVec 32 := Scalar.subi v106 c1_i32_65
  let v122 : BitVec 32 := Scalar.select v120 v121 v106
  let c16_i32_67 : BitVec 32 := 16#32
  let v126 : BitVec 32 := Scalar.muli v122 c16_i32_67
  let c2097152_i32_66 : BitVec 32 := 2097152#32
  let v123 : BitVec 32 := Scalar.muli v122 c2097152_i32_66
  let v124 : BitVec 32 := Scalar.subi v105 v123
  let v125 : BitVec 32 := v124
  ![v126.toNat, v125.toNat]
def k0_cond2 (k0_t2 : Fin k0_t2_loop.trips) : BitVec 1 :=
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2_i32_74 : BitVec 32 := 2#32
  let v135 : BitVec 32 := Scalar.addi v88 c2_i32_74
  let c64_i32 : BitVec 32 := 64#32
  let v136 : BitVec 1 := Scalar.cmpi .slt v135 c64_i32
  let v137 : BitVec 32 := Scalar.extui v136
  let c0_i32_75 : BitVec 32 := 0#32
  let v138 : BitVec 1 := Scalar.cmpi .ne v137 c0_i32_75
  v138

def k0_mult6 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2_i32_109 : BitVec 32 := 2#32
  let v191 : BitVec 32 := Scalar.addi v88 c2_i32_109
  let c2048_i32_110 : BitVec 32 := 2048#32
  let v192 : BitVec 32 := Scalar.muli v191 c2048_i32_110
  let v193 : BitVec 32 := Scalar.addi v5 v192
  v193
def k0_off27 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_44 : BitVec 32 := 2#32
  let v87 : BitVec 32 := Scalar.muli arg8 c2_i32_44
  let c0_i32_45 : BitVec 32 := 0#32
  let v88 : BitVec 32 := Scalar.addi v87 c0_i32_45
  let c2_i32_109 : BitVec 32 := 2#32
  let v191 : BitVec 32 := Scalar.addi v88 c2_i32_109
  let c2048_i32_110 : BitVec 32 := 2048#32
  let v192 : BitVec 32 := Scalar.muli v191 c2048_i32_110
  let v193 : BitVec 32 := Scalar.addi v5 v192
  let v194 : BitVec 32 := v193
  ![v194.toNat]
def k0_mult7 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2048_i32_78 : BitVec 32 := 2048#32
  let v141 : BitVec 32 := Scalar.muli v140 c2048_i32_78
  let v142 : BitVec 32 := Scalar.addi v5 v141
  v142
def k0_cond3 (k0_t2 : Fin k0_t2_loop.trips) : BitVec 1 :=
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2_i32_83 : BitVec 32 := 2#32
  let v152 : BitVec 1 := Scalar.cmpi .sge v140 c2_i32_83
  let v153 : BitVec 32 := Scalar.extui v152
  let c0_i32_84 : BitVec 32 := 0#32
  let v154 : BitVec 1 := Scalar.cmpi .ne v153 c0_i32_84
  v154

def k0_mult8 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2_i32_109 : BitVec 32 := 2#32
  let v191 : BitVec 32 := Scalar.subi v140 c2_i32_109
  let c2048_i32_110 : BitVec 32 := 2048#32
  let v192 : BitVec 32 := Scalar.muli v191 c2048_i32_110
  let v193 : BitVec 32 := Scalar.addi v5 v192
  let c0_i32_112 : BitVec 32 := 0#32
  let v195 : BitVec 1 := Scalar.cmpi .sgt v193 c0_i32_112
  let v196 : BitVec 32 := Scalar.extui v195
  let c0_i32_113 : BitVec 32 := 0#32
  let v197 : BitVec 1 := Scalar.cmpi .slt v193 c0_i32_113
  let v198 : BitVec 32 := Scalar.extui v197
  let v199 : BitVec 32 := Scalar.subi v196 v198
  let c2097152_i32_111 : BitVec 32 := 2097152#32
  let c0_i32_114 : BitVec 32 := 0#32
  let v200 : BitVec 1 := Scalar.cmpi .sgt c2097152_i32_111 c0_i32_114
  let v201 : BitVec 32 := Scalar.extui v200
  let c0_i32_115 : BitVec 32 := 0#32
  let v202 : BitVec 1 := Scalar.cmpi .slt c2097152_i32_111 c0_i32_115
  let v203 : BitVec 32 := Scalar.extui v202
  let v204 : BitVec 32 := Scalar.subi v201 v203
  let v205 : BitVec 1 := Scalar.cmpi .ne v199 v204
  let v206 : BitVec 32 := Scalar.remsi v193 c2097152_i32_111
  let c0_i32_116 : BitVec 32 := 0#32
  let v207 : BitVec 1 := Scalar.cmpi .ne v206 c0_i32_116
  let v208 : BitVec 1 := Scalar.andi v205 v207
  let v194 : BitVec 32 := Scalar.divsi v193 c2097152_i32_111
  let c1_i32_117 : BitVec 32 := 1#32
  let v209 : BitVec 32 := Scalar.subi v194 c1_i32_117
  let v210 : BitVec 32 := Scalar.select v208 v209 v194
  let c2097152_i32_118 : BitVec 32 := 2097152#32
  let v211 : BitVec 32 := Scalar.muli v210 c2097152_i32_118
  let v212 : BitVec 32 := Scalar.subi v193 v211
  v212
def k0_off28 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2_i32_109 : BitVec 32 := 2#32
  let v191 : BitVec 32 := Scalar.subi v140 c2_i32_109
  let c2048_i32_110 : BitVec 32 := 2048#32
  let v192 : BitVec 32 := Scalar.muli v191 c2048_i32_110
  let v193 : BitVec 32 := Scalar.addi v5 v192
  let c0_i32_112 : BitVec 32 := 0#32
  let v195 : BitVec 1 := Scalar.cmpi .sgt v193 c0_i32_112
  let v196 : BitVec 32 := Scalar.extui v195
  let c0_i32_113 : BitVec 32 := 0#32
  let v197 : BitVec 1 := Scalar.cmpi .slt v193 c0_i32_113
  let v198 : BitVec 32 := Scalar.extui v197
  let v199 : BitVec 32 := Scalar.subi v196 v198
  let c2097152_i32_111 : BitVec 32 := 2097152#32
  let c0_i32_114 : BitVec 32 := 0#32
  let v200 : BitVec 1 := Scalar.cmpi .sgt c2097152_i32_111 c0_i32_114
  let v201 : BitVec 32 := Scalar.extui v200
  let c0_i32_115 : BitVec 32 := 0#32
  let v202 : BitVec 1 := Scalar.cmpi .slt c2097152_i32_111 c0_i32_115
  let v203 : BitVec 32 := Scalar.extui v202
  let v204 : BitVec 32 := Scalar.subi v201 v203
  let v205 : BitVec 1 := Scalar.cmpi .ne v199 v204
  let v206 : BitVec 32 := Scalar.remsi v193 c2097152_i32_111
  let c0_i32_116 : BitVec 32 := 0#32
  let v207 : BitVec 1 := Scalar.cmpi .ne v206 c0_i32_116
  let v208 : BitVec 1 := Scalar.andi v205 v207
  let v194 : BitVec 32 := Scalar.divsi v193 c2097152_i32_111
  let c1_i32_117 : BitVec 32 := 1#32
  let v209 : BitVec 32 := Scalar.subi v194 c1_i32_117
  let v210 : BitVec 32 := Scalar.select v208 v209 v194
  let c16_i32_119 : BitVec 32 := 16#32
  let v214 : BitVec 32 := Scalar.muli v210 c16_i32_119
  let c2097152_i32_118 : BitVec 32 := 2097152#32
  let v211 : BitVec 32 := Scalar.muli v210 c2097152_i32_118
  let v212 : BitVec 32 := Scalar.subi v193 v211
  let v213 : BitVec 32 := v212
  ![v214.toNat, v213.toNat]
@[reducible] def k0_t4_loop : Scf.Loop 32 :=
  let c0_i32_86 : BitVec 32 := 0#32
  let c128_i32_87 : BitVec 32 := 128#32
  let v155 : BitVec 32 := Scalar.addi c0_i32_86 c128_i32_87
  let c1_i32_88 : BitVec 32 := 1#32
  ⟨c0_i32_86, v155, c1_i32_88⟩
def k0_off29 (k0_t4 : Fin k0_t4_loop.trips) : Fin 2 → Nat :=
  let c1_i32_110 : BitVec 32 := 1#32
  let v192 : Index := Scalar.indexCast c1_i32_110
  let c0_i32_86 : BitVec 32 := 0#32
  let c1_i32_88 : BitVec 32 := 1#32
  let arg9 : BitVec 32 := Scf.iv c0_i32_86 c1_i32_88 k0_t4
  let c16_i32_109 : BitVec 32 := 16#32
  let v191 : BitVec 32 := Scalar.muli arg9 c16_i32_109
  let v193 : Index := Scalar.indexCast v191
  ![1, v193.toNat]
def k0_off30 (k0_t4 : Fin k0_t4_loop.trips) : Fin 3 → Nat :=
  let c1_i32_118 : BitVec 32 := 1#32
  let v212 : Index := Scalar.indexCast c1_i32_118
  let c0_i32_119 : BitVec 32 := 0#32
  let v213 : Index := Scalar.indexCast c0_i32_119
  let c0_i32_86 : BitVec 32 := 0#32
  let c1_i32_88 : BitVec 32 := 1#32
  let arg9 : BitVec 32 := Scf.iv c0_i32_86 c1_i32_88 k0_t4
  let c16_i32_117 : BitVec 32 := 16#32
  let v211 : BitVec 32 := Scalar.muli arg9 c16_i32_117
  let v214 : Index := Scalar.indexCast v211
  ![1, 0, v214.toNat]
def k0_off31 (k0_t4 : Fin k0_t4_loop.trips) : Fin 3 → Nat :=
  let c1_i32_122 : BitVec 32 := 1#32
  let v222 : Index := Scalar.indexCast c1_i32_122
  let c1_i32_123 : BitVec 32 := 1#32
  let v223 : Index := Scalar.indexCast c1_i32_123
  let c0_i32_86 : BitVec 32 := 0#32
  let c1_i32_88 : BitVec 32 := 1#32
  let arg9 : BitVec 32 := Scf.iv c0_i32_86 c1_i32_88 k0_t4
  let c16_i32_121 : BitVec 32 := 16#32
  let v221 : BitVec 32 := Scalar.muli arg9 c16_i32_121
  let v224 : Index := Scalar.indexCast v221
  ![1, 1, v224.toNat]
def k0_off32 (k0_t4 : Fin k0_t4_loop.trips) : Fin 3 → Nat :=
  let c1_i32_126 : BitVec 32 := 1#32
  let v232 : Index := Scalar.indexCast c1_i32_126
  let c2_i32_127 : BitVec 32 := 2#32
  let v233 : Index := Scalar.indexCast c2_i32_127
  let c0_i32_86 : BitVec 32 := 0#32
  let c1_i32_88 : BitVec 32 := 1#32
  let arg9 : BitVec 32 := Scf.iv c0_i32_86 c1_i32_88 k0_t4
  let c16_i32_125 : BitVec 32 := 16#32
  let v231 : BitVec 32 := Scalar.muli arg9 c16_i32_125
  let v234 : Index := Scalar.indexCast v231
  ![1, 2, v234.toNat]
def k0_off33 (k0_t4 : Fin k0_t4_loop.trips) : Fin 3 → Nat :=
  let c1_i32_130 : BitVec 32 := 1#32
  let v242 : Index := Scalar.indexCast c1_i32_130
  let c3_i32 : BitVec 32 := 3#32
  let v243 : Index := Scalar.indexCast c3_i32
  let c0_i32_86 : BitVec 32 := 0#32
  let c1_i32_88 : BitVec 32 := 1#32
  let arg9 : BitVec 32 := Scf.iv c0_i32_86 c1_i32_88 k0_t4
  let c16_i32_129 : BitVec 32 := 16#32
  let v241 : BitVec 32 := Scalar.muli arg9 c16_i32_129
  let v244 : Index := Scalar.indexCast v241
  ![1, 3, v244.toNat]
def k0_off34 (k0_t4 : Fin k0_t4_loop.trips) : Fin 3 → Nat :=
  let c1_i32_133 : BitVec 32 := 1#32
  let v252 : Index := Scalar.indexCast c1_i32_133
  let c4_i32 : BitVec 32 := 4#32
  let v253 : Index := Scalar.indexCast c4_i32
  let c0_i32_86 : BitVec 32 := 0#32
  let c1_i32_88 : BitVec 32 := 1#32
  let arg9 : BitVec 32 := Scf.iv c0_i32_86 c1_i32_88 k0_t4
  let c16_i32_132 : BitVec 32 := 16#32
  let v251 : BitVec 32 := Scalar.muli arg9 c16_i32_132
  let v254 : Index := Scalar.indexCast v251
  ![1, 4, v254.toNat]
def k0_off35 (k0_t4 : Fin k0_t4_loop.trips) : Fin 3 → Nat :=
  let c1_i32_136 : BitVec 32 := 1#32
  let v262 : Index := Scalar.indexCast c1_i32_136
  let c5_i32 : BitVec 32 := 5#32
  let v263 : Index := Scalar.indexCast c5_i32
  let c0_i32_86 : BitVec 32 := 0#32
  let c1_i32_88 : BitVec 32 := 1#32
  let arg9 : BitVec 32 := Scf.iv c0_i32_86 c1_i32_88 k0_t4
  let c16_i32_135 : BitVec 32 := 16#32
  let v261 : BitVec 32 := Scalar.muli arg9 c16_i32_135
  let v264 : Index := Scalar.indexCast v261
  ![1, 5, v264.toNat]
def k0_off36 (k0_t4 : Fin k0_t4_loop.trips) : Fin 3 → Nat :=
  let c1_i32_139 : BitVec 32 := 1#32
  let v272 : Index := Scalar.indexCast c1_i32_139
  let c6_i32 : BitVec 32 := 6#32
  let v273 : Index := Scalar.indexCast c6_i32
  let c0_i32_86 : BitVec 32 := 0#32
  let c1_i32_88 : BitVec 32 := 1#32
  let arg9 : BitVec 32 := Scf.iv c0_i32_86 c1_i32_88 k0_t4
  let c16_i32_138 : BitVec 32 := 16#32
  let v271 : BitVec 32 := Scalar.muli arg9 c16_i32_138
  let v274 : Index := Scalar.indexCast v271
  ![1, 6, v274.toNat]
def k0_off37 (k0_t4 : Fin k0_t4_loop.trips) : Fin 3 → Nat :=
  let c1_i32_142 : BitVec 32 := 1#32
  let v282 : Index := Scalar.indexCast c1_i32_142
  let c7_i32 : BitVec 32 := 7#32
  let v283 : Index := Scalar.indexCast c7_i32
  let c0_i32_86 : BitVec 32 := 0#32
  let c1_i32_88 : BitVec 32 := 1#32
  let arg9 : BitVec 32 := Scf.iv c0_i32_86 c1_i32_88 k0_t4
  let c16_i32_141 : BitVec 32 := 16#32
  let v281 : BitVec 32 := Scalar.muli arg9 c16_i32_141
  let v284 : Index := Scalar.indexCast v281
  ![1, 7, v284.toNat]
def k0_off38 (k0_t4 : Fin k0_t4_loop.trips) : Fin 3 → Nat :=
  let c1_i32_145 : BitVec 32 := 1#32
  let v292 : Index := Scalar.indexCast c1_i32_145
  let c8_i32 : BitVec 32 := 8#32
  let v293 : Index := Scalar.indexCast c8_i32
  let c0_i32_86 : BitVec 32 := 0#32
  let c1_i32_88 : BitVec 32 := 1#32
  let arg9 : BitVec 32 := Scf.iv c0_i32_86 c1_i32_88 k0_t4
  let c16_i32_144 : BitVec 32 := 16#32
  let v291 : BitVec 32 := Scalar.muli arg9 c16_i32_144
  let v294 : Index := Scalar.indexCast v291
  ![1, 8, v294.toNat]
def k0_off39 (k0_t4 : Fin k0_t4_loop.trips) : Fin 3 → Nat :=
  let c1_i32_148 : BitVec 32 := 1#32
  let v302 : Index := Scalar.indexCast c1_i32_148
  let c9_i32 : BitVec 32 := 9#32
  let v303 : Index := Scalar.indexCast c9_i32
  let c0_i32_86 : BitVec 32 := 0#32
  let c1_i32_88 : BitVec 32 := 1#32
  let arg9 : BitVec 32 := Scf.iv c0_i32_86 c1_i32_88 k0_t4
  let c16_i32_147 : BitVec 32 := 16#32
  let v301 : BitVec 32 := Scalar.muli arg9 c16_i32_147
  let v304 : Index := Scalar.indexCast v301
  ![1, 9, v304.toNat]
def k0_off40 (k0_t4 : Fin k0_t4_loop.trips) : Fin 3 → Nat :=
  let c1_i32_151 : BitVec 32 := 1#32
  let v312 : Index := Scalar.indexCast c1_i32_151
  let c10_i32 : BitVec 32 := 10#32
  let v313 : Index := Scalar.indexCast c10_i32
  let c0_i32_86 : BitVec 32 := 0#32
  let c1_i32_88 : BitVec 32 := 1#32
  let arg9 : BitVec 32 := Scf.iv c0_i32_86 c1_i32_88 k0_t4
  let c16_i32_150 : BitVec 32 := 16#32
  let v311 : BitVec 32 := Scalar.muli arg9 c16_i32_150
  let v314 : Index := Scalar.indexCast v311
  ![1, 10, v314.toNat]
def k0_mult9 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2048_i32_90 : BitVec 32 := 2048#32
  let v156 : BitVec 32 := Scalar.muli v140 c2048_i32_90
  let v157 : BitVec 32 := Scalar.addi v5 v156
  let c0_i32_92 : BitVec 32 := 0#32
  let v159 : BitVec 1 := Scalar.cmpi .sgt v157 c0_i32_92
  let v160 : BitVec 32 := Scalar.extui v159
  let c0_i32_93 : BitVec 32 := 0#32
  let v161 : BitVec 1 := Scalar.cmpi .slt v157 c0_i32_93
  let v162 : BitVec 32 := Scalar.extui v161
  let v163 : BitVec 32 := Scalar.subi v160 v162
  let c2097152_i32_91 : BitVec 32 := 2097152#32
  let c0_i32_94 : BitVec 32 := 0#32
  let v164 : BitVec 1 := Scalar.cmpi .sgt c2097152_i32_91 c0_i32_94
  let v165 : BitVec 32 := Scalar.extui v164
  let c0_i32_95 : BitVec 32 := 0#32
  let v166 : BitVec 1 := Scalar.cmpi .slt c2097152_i32_91 c0_i32_95
  let v167 : BitVec 32 := Scalar.extui v166
  let v168 : BitVec 32 := Scalar.subi v165 v167
  let v169 : BitVec 1 := Scalar.cmpi .ne v163 v168
  let v170 : BitVec 32 := Scalar.remsi v157 c2097152_i32_91
  let c0_i32_96 : BitVec 32 := 0#32
  let v171 : BitVec 1 := Scalar.cmpi .ne v170 c0_i32_96
  let v172 : BitVec 1 := Scalar.andi v169 v171
  let v158 : BitVec 32 := Scalar.divsi v157 c2097152_i32_91
  let c1_i32_97 : BitVec 32 := 1#32
  let v173 : BitVec 32 := Scalar.subi v158 c1_i32_97
  let v174 : BitVec 32 := Scalar.select v172 v173 v158
  let c2097152_i32_98 : BitVec 32 := 2097152#32
  let v175 : BitVec 32 := Scalar.muli v174 c2097152_i32_98
  let v176 : BitVec 32 := Scalar.subi v157 v175
  v176
def k0_cond4 (k0_t2 : Fin k0_t2_loop.trips) : BitVec 1 :=
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2_i32_106 : BitVec 32 := 2#32
  let v187 : BitVec 32 := Scalar.addi v140 c2_i32_106
  let c64_i32_107 : BitVec 32 := 64#32
  let v188 : BitVec 1 := Scalar.cmpi .slt v187 c64_i32_107
  let v189 : BitVec 32 := Scalar.extui v188
  let c0_i32_108 : BitVec 32 := 0#32
  let v190 : BitVec 1 := Scalar.cmpi .ne v189 c0_i32_108
  v190

def k0_mult10 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2_i32_109 : BitVec 32 := 2#32
  let v191 : BitVec 32 := Scalar.addi v140 c2_i32_109
  let c2048_i32_110 : BitVec 32 := 2048#32
  let v192 : BitVec 32 := Scalar.muli v191 c2048_i32_110
  let v193 : BitVec 32 := Scalar.addi v5 v192
  v193
def k0_off41 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c0_i32_13 : BitVec 32 := 0#32
  let c1_i32_14 : BitVec 32 := 1#32
  let arg8 : BitVec 32 := Scf.iv c0_i32_13 c1_i32_14 k0_t2
  let c2_i32_76 : BitVec 32 := 2#32
  let v139 : BitVec 32 := Scalar.muli arg8 c2_i32_76
  let c1_i32_77 : BitVec 32 := 1#32
  let v140 : BitVec 32 := Scalar.addi v139 c1_i32_77
  let c2_i32_109 : BitVec 32 := 2#32
  let v191 : BitVec 32 := Scalar.addi v140 c2_i32_109
  let c2048_i32_110 : BitVec 32 := 2048#32
  let v192 : BitVec 32 := Scalar.muli v191 c2048_i32_110
  let v193 : BitVec 32 := Scalar.addi v5 v192
  let v194 : BitVec 32 := v193
  ![v194.toNat]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c126976_i32 : BitVec 32 := 126976#32
  let v27 : BitVec 32 := Scalar.addi v5 c126976_i32
  let c0_i32_16 : BitVec 32 := 0#32
  let v29 : BitVec 1 := Scalar.cmpi .sgt v27 c0_i32_16
  let v30 : BitVec 32 := Scalar.extui v29
  let c0_i32_17 : BitVec 32 := 0#32
  let v31 : BitVec 1 := Scalar.cmpi .slt v27 c0_i32_17
  let v32 : BitVec 32 := Scalar.extui v31
  let v33 : BitVec 32 := Scalar.subi v30 v32
  let c2097152_i32 : BitVec 32 := 2097152#32
  let c0_i32_18 : BitVec 32 := 0#32
  let v34 : BitVec 1 := Scalar.cmpi .sgt c2097152_i32 c0_i32_18
  let v35 : BitVec 32 := Scalar.extui v34
  let c0_i32_19 : BitVec 32 := 0#32
  let v36 : BitVec 1 := Scalar.cmpi .slt c2097152_i32 c0_i32_19
  let v37 : BitVec 32 := Scalar.extui v36
  let v38 : BitVec 32 := Scalar.subi v35 v37
  let v39 : BitVec 1 := Scalar.cmpi .ne v33 v38
  let v40 : BitVec 32 := Scalar.remsi v27 c2097152_i32
  let c0_i32_20 : BitVec 32 := 0#32
  let v41 : BitVec 1 := Scalar.cmpi .ne v40 c0_i32_20
  let v42 : BitVec 1 := Scalar.andi v39 v41
  let v28 : BitVec 32 := Scalar.divsi v27 c2097152_i32
  let c1_i32_21 : BitVec 32 := 1#32
  let v43 : BitVec 32 := Scalar.subi v28 c1_i32_21
  let v44 : BitVec 32 := Scalar.select v42 v43 v28
  let c2097152_i32_22 : BitVec 32 := 2097152#32
  let v45 : BitVec 32 := Scalar.muli v44 c2097152_i32_22
  let v46 : BitVec 32 := Scalar.subi v27 v45
  v46
def k0_off42 (i : grid0.Coords) (c126976_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let v27 : BitVec 32 := Scalar.addi v5 c126976_i32
  let c0_i32_16 : BitVec 32 := 0#32
  let v29 : BitVec 1 := Scalar.cmpi .sgt v27 c0_i32_16
  let v30 : BitVec 32 := Scalar.extui v29
  let c0_i32_17 : BitVec 32 := 0#32
  let v31 : BitVec 1 := Scalar.cmpi .slt v27 c0_i32_17
  let v32 : BitVec 32 := Scalar.extui v31
  let v33 : BitVec 32 := Scalar.subi v30 v32
  let c2097152_i32 : BitVec 32 := 2097152#32
  let c0_i32_18 : BitVec 32 := 0#32
  let v34 : BitVec 1 := Scalar.cmpi .sgt c2097152_i32 c0_i32_18
  let v35 : BitVec 32 := Scalar.extui v34
  let c0_i32_19 : BitVec 32 := 0#32
  let v36 : BitVec 1 := Scalar.cmpi .slt c2097152_i32 c0_i32_19
  let v37 : BitVec 32 := Scalar.extui v36
  let v38 : BitVec 32 := Scalar.subi v35 v37
  let v39 : BitVec 1 := Scalar.cmpi .ne v33 v38
  let v40 : BitVec 32 := Scalar.remsi v27 c2097152_i32
  let c0_i32_20 : BitVec 32 := 0#32
  let v41 : BitVec 1 := Scalar.cmpi .ne v40 c0_i32_20
  let v42 : BitVec 1 := Scalar.andi v39 v41
  let v28 : BitVec 32 := Scalar.divsi v27 c2097152_i32
  let c1_i32_21 : BitVec 32 := 1#32
  let v43 : BitVec 32 := Scalar.subi v28 c1_i32_21
  let v44 : BitVec 32 := Scalar.select v42 v43 v28
  let c16_i32 : BitVec 32 := 16#32
  let v48 : BitVec 32 := Scalar.muli v44 c16_i32
  let c2097152_i32_22 : BitVec 32 := 2097152#32
  let v45 : BitVec 32 := Scalar.muli v44 c2097152_i32_22
  let v46 : BitVec 32 := Scalar.subi v27 v45
  let v47 : BitVec 32 := v46
  ![v48.toNat, v47.toNat]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v5 : BitVec 32 := Scalar.muli v1 c131072_i32
  let c129024_i32 : BitVec 32 := 129024#32
  let v57 : BitVec 32 := Scalar.addi v5 c129024_i32
  let c0_i32_30 : BitVec 32 := 0#32
  let v59 : BitVec 1 := Scalar.cmpi .sgt v57 c0_i32_30
  let v60 : BitVec 32 := Scalar.extui v59
  let c0_i32_31 : BitVec 32 := 0#32
  let v61 : BitVec 1 := Scalar.cmpi .slt v57 c0_i32_31
  let v62 : BitVec 32 := Scalar.extui v61
  let v63 : BitVec 32 := Scalar.subi v60 v62
  let c2097152_i32_29 : BitVec 32 := 2097152#32
  let c0_i32_32 : BitVec 32 := 0#32
  let v64 : BitVec 1 := Scalar.cmpi .sgt c2097152_i32_29 c0_i32_32
  let v65 : BitVec 32 := Scalar.extui v64
  let c0_i32_33 : BitVec 32 := 0#32
  let v66 : BitVec 1 := Scalar.cmpi .slt c2097152_i32_29 c0_i32_33
  let v67 : BitVec 32 := Scalar.extui v66
  let v68 : BitVec 32 := Scalar.subi v65 v67
  let v69 : BitVec 1 := Scalar.cmpi .ne v63 v68
  let v70 : BitVec 32 := Scalar.remsi v57 c2097152_i32_29
  let c0_i32_34 : BitVec 32 := 0#32
  let v71 : BitVec 1 := Scalar.cmpi .ne v70 c0_i32_34
  let v72 : BitVec 1 := Scalar.andi v69 v71
  let v58 : BitVec 32 := Scalar.divsi v57 c2097152_i32_29
  let c1_i32_35 : BitVec 32 := 1#32
  let v73 : BitVec 32 := Scalar.subi v58 c1_i32_35
  let v74 : BitVec 32 := Scalar.select v72 v73 v58
  let c2097152_i32_36 : BitVec 32 := 2097152#32
  let v75 : BitVec 32 := Scalar.muli v74 c2097152_i32_36
  let v76 : BitVec 32 := Scalar.subi v57 v75
  v76
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2x16x2048x1024 : Shape := ⟨4, ![2, 16, 2048, 1024]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S1024 : Shape := ⟨1, ![1024]⟩
abbrev S1x1x1024 : Shape := ⟨3, ![1, 1, 1024]⟩
abbrev S2x2048x1024x1 : Shape := ⟨4, ![2, 2048, 1024, 1]⟩
abbrev S2x2048x1024x4 : Shape := ⟨4, ![2, 2048, 1024, 4]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S_, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2x2048x1024, .i32⟩
  | .hbm, ⟨21, _⟩ => ⟨S2x2048x1024, .i32⟩
  | .hbm, ⟨22, _⟩ => ⟨S_, .i32⟩
  | .hbm, ⟨23, _⟩ => ⟨S2x2048x1024, .i32⟩
  | .hbm, ⟨24, _⟩ => ⟨S2x2048x1024, .i32⟩
  | .hbm, ⟨25, _⟩ => ⟨S_, .f32⟩
  | .hbm, ⟨26, _⟩ => ⟨S2x16x2048x1024, .f32⟩
  | .hbm, ⟨27, _⟩ => ⟨S2, .i32⟩
  | .hbm, ⟨28, _⟩ => ⟨S2x1x1, .i32⟩
  | .hbm, ⟨29, _⟩ => ⟨S2x2048x1024, .i32⟩
  | .hbm, ⟨30, _⟩ => ⟨S2048, .i32⟩
  | .hbm, ⟨31, _⟩ => ⟨S1x2048x1, .i32⟩
  | .hbm, ⟨32, _⟩ => ⟨S2x2048x1024, .i32⟩
  | .hbm, ⟨33, _⟩ => ⟨S1024, .i32⟩
  | .hbm, ⟨34, _⟩ => ⟨S1x1x1024, .i32⟩
  | .hbm, ⟨35, _⟩ => ⟨S2x2048x1024, .i32⟩
  | .hbm, ⟨36, _⟩ => ⟨S_, .i32⟩
  | .hbm, ⟨37, _⟩ => ⟨S2x2048x1024, .i32⟩
  | .hbm, ⟨38, _⟩ => ⟨S2x2048x1024, .i1⟩
  | .hbm, ⟨39, _⟩ => ⟨S_, .i32⟩
  | .hbm, ⟨40, _⟩ => ⟨S2x2048x1024, .i32⟩
  | .hbm, ⟨41, _⟩ => ⟨S2x2048x1024, .i32⟩
  | .hbm, ⟨42, _⟩ => ⟨S2x2048x1024, .i32⟩
  | .hbm, ⟨43, _⟩ => ⟨S_, .i32⟩
  | .hbm, ⟨44, _⟩ => ⟨S2x2048x1024, .i32⟩
  | .hbm, ⟨45, _⟩ => ⟨S2x2048x1024, .i1⟩
  | .hbm, ⟨46, _⟩ => ⟨S_, .i32⟩
  | .hbm, ⟨47, _⟩ => ⟨S2x2048x1024, .i32⟩
  | .hbm, ⟨48, _⟩ => ⟨S2x2048x1024, .i32⟩
  | .hbm, ⟨49, _⟩ => ⟨S2x2048x1024, .i32⟩
  | .hbm, ⟨50, _⟩ => ⟨S_, .i32⟩
  | .hbm, ⟨51, _⟩ => ⟨S2x2048x1024, .i32⟩
  | .hbm, ⟨52, _⟩ => ⟨S2x2048x1024, .i1⟩
  | .hbm, ⟨53, _⟩ => ⟨S_, .i32⟩
  | .hbm, ⟨54, _⟩ => ⟨S2x2048x1024, .i32⟩
  | .hbm, ⟨55, _⟩ => ⟨S2x2048x1024, .i32⟩
  | .hbm, ⟨56, _⟩ => ⟨S2x2048x1024, .i32⟩
  | .hbm, ⟨57, _⟩ => ⟨S_, .i32⟩
  | .hbm, ⟨58, _⟩ => ⟨S2x2048x1024, .i32⟩
  | .hbm, ⟨59, _⟩ => ⟨S2x2048x1024, .i1⟩
  | .hbm, ⟨60, _⟩ => ⟨S_, .i32⟩
  | .hbm, ⟨61, _⟩ => ⟨S2x2048x1024, .i32⟩
  | .hbm, ⟨62, _⟩ => ⟨S2x2048x1024, .i32⟩
  | .hbm, ⟨63, _⟩ => ⟨S2x2048x1024, .i32⟩
  | .hbm, ⟨64, _⟩ => ⟨S2x2048x1024x1, .i32⟩
  | .hbm, ⟨65, _⟩ => ⟨S2x2048x1024x1, .i32⟩
  | .hbm, ⟨66, _⟩ => ⟨S2x2048x1024x1, .i32⟩
  | .hbm, ⟨67, _⟩ => ⟨S2x2048x1024x1, .i32⟩
  | .hbm, ⟨68, _⟩ => ⟨S2x2048x1024x4, .i32⟩
  | .hbm, ⟨69, _⟩ => ⟨S_, .f32⟩
  | .hbm, ⟨70, _⟩ => ⟨S2x2048x1024, .f32⟩
  | .hbm, ⟨71, _⟩ => ⟨S2x16x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_c_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_11 : Ref sig .tc := ⟨.hbm, 57, rfl⟩
abbrev main_v38 : Ref sig .tc := ⟨.hbm, 58, rfl⟩
abbrev main_v39 : Ref sig .tc := ⟨.hbm, 59, rfl⟩
abbrev main_c_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.Windows.lean ====
/-
  The names under which the SparseCore kernel's windows, slots and semaphores are held in its proof: chunk `g` of a
  worker's 64, in the flat input (`xwin`) and in the array of spike rows (`owin`), the two slots of the two scratches
  (`xslot`, `oslot`) and the two cells of each semaphore array (`cin`, `cout`); and the equations that bring the
  program's own slices to these names.
-/
module

public import proofs.«01_k».proof.Defs
public import Idealize.ShloMosaic.Lib.Tactic
public import Idealize.ShloMosaic.Lib.Pipeline.Kit
public import Idealize.ShloMosaic.Lib.StableHlo.Run
public import Idealize.ShloMosaic.Lib.Decide
public import proofs.«01_k».proof.Proof.Gen.KernelIdeal
public import proofs.«01_k».proof.Proof.Gen.KernelIdeal.Skeleton

@[expose] public section

noncomputable section

namespace Cert.Spike

open Cert.KernelIdeal Cert.KernelIdeal.Gen
open Idealize.ShloMosaic Idealize.ShloMosaic.Tactic
open Idealize.SL Idealize.SL.RA Idealize.SL.BI

/-! ## The kernel's memrefs, as the body table passes them -/

abbrev xM : Memref sig .scVector .hbm S4194304 .f32 := Memref.whole main_v0_scv
abbrev oM : Memref sig .scVector .hbm S32x2097152 .f32 := Memref.whole main_v1_scv
abbrev xbM : Memref sig .scVector .vmem S2x2048 .f32 := Memref.whole cc0_scratch0
abbrev obM : Memref sig .scVector .vmem S2x16x2048 .f32 := Memref.whole cc0_scratch1

/-! ## Offsets -/

/-- Chunk `g` of worker `i`, in the flat input: -/
def xOff (i : grid0.Coords) (g : Fin 64) : Fin 1 → ℕ := ![262144 * (i 1).val + 131072 * (i 0).val + 2048 * g.val]
/-- and in the rows: the batch is the worker's half, sixteen rows to a batch. -/
def oOff (i : grid0.Coords) (g : Fin 64) : Fin 2 → ℕ :=
  ![16 * ((i 1).val / 8), 262144 * ((i 1).val % 8) + 131072 * (i 0).val + 2048 * g.val]

theorem xOff_inb (i : grid0.Coords) (g : Fin 64) : ∀ a, xOff i g a + S2048.size a ≤ S4194304.size a := by
  have h1 : (i 1).val < 16 := (i 1).isLt
  have h0 : (i 0).val < 2 := (i 0).isLt
  intro a; fin_cases a; show 262144 * (i 1).val + 131072 * (i 0).val + 2048 * g.val + 2048 ≤ 4194304; omega
theorem oOff_inb (i : grid0.Coords) (g : Fin 64) : ∀ a, oOff i g a + S16x2048.size a ≤ S32x2097152.size a := by
  have h1 : (i 1).val < 16 := (i 1).isLt
  have h0 : (i 0).val < 2 := (i 0).isLt
  intro a; fin_cases a
  · show 16 * ((i 1).val / 8) + 16 ≤ 32; omega
  · show 262144 * ((i 1).val % 8) + 131072 * (i 0).val + 2048 * g.val + 2048 ≤ 2097152; omega

def xsOff (s : Fin 2) : Fin 2 → ℕ := ![s.val, 0]
def osOff (s : Fin 2) : Fin 3 → ℕ := ![s.val, 0, 0]
def smOff (s : Fin 2) : Fin 1 → ℕ := ![s.val]
theorem xsOff_inb (s : Fin 2) : ∀ a, xsOff s a + S1x2048.size a ≤ S2x2048.size a := by revert s; decide
theorem osOff_inb (s : Fin 2) : ∀ a, osOff s a + S1x16x2048.size a ≤ S2x16x2048.size a := by revert s; decide
theorem smOff_inb (s : Fin 2) : ∀ a, smOff s a + S1.size a ≤ S2.size a := by revert s; decide

/-! ## Windows, slots, cells -/

def xwin (i : grid0.Coords) (g : Fin 64) : Memref sig .scVector .hbm S2048 .f32 :=
  xM.slice (Rect.unit (s := S4194304) (xOff i g) S2048.size (xOff_inb i g)) (fun _ => rfl)
def owin (i : grid0.Coords) (g : Fin 64) : Memref sig .scVector .hbm S16x2048 .f32 :=
  oM.slice (Rect.unit (s := S32x2097152) (oOff i g) S16x2048.size (oOff_inb i g)) (fun _ => rfl)
def xslot (s : Fin 2) : Memref sig .scVector .vmem S2048 .f32 :=
  (xbM.slice (Rect.unit (s := S2x2048) (xsOff s) S1x2048.size (xsOff_inb s)) (fun _ => rfl)).squeeze S2048 squeezes_S1x2048_S2048
def oslot (s : Fin 2) : Memref sig .scVector .vmem S16x2048 .f32 :=
  (obM.slice (Rect.unit (s := S2x16x2048) (osOff s) S1x16x2048.size (osOff_inb s)) (fun _ => rfl)).squeeze S16x2048 squeezes_S1x16x2048_S16x2048
def cin (s : Fin 2) : DmaSems sig S_ := (cc0_scratch2.slice (Rect.unit (s := S2) (smOff s) S1.size (smOff_inb s))).squeeze S_ squeezes_S1_S_
def cout (s : Fin 2) : DmaSems sig S_ := (cc0_scratch3.slice (Rect.unit (s := S2) (smOff s) S1.size (smOff_inb s))).squeeze S_ squeezes_S1_S_

instance (i : grid0.Coords) (g : Fin 64) : ClosedOff (xOff i g) :=
  ⟨![262144 * (i 1).val + 131072 * (i 0).val + 2048 * g.val], rfl⟩
instance (i : grid0.Coords) (g : Fin 64) : ClosedOff (oOff i g) :=
  ⟨![16 * ((i 1).val / 8), 262144 * ((i 1).val % 8) + 131072 * (i 0).val + 2048 * g.val], rfl⟩
instance (s : Fin 2) : ClosedOff (xsOff s) := ⟨![s.val, 0], rfl⟩
instance (s : Fin 2) : ClosedOff (osOff s) := ⟨![s.val, 0, 0], rfl⟩

/-! ## The trips, and the conditions of a trip -/

theorem trips1_eq : k0_t1_loop.trips = 128 := by decide
theorem trips2_eq : k0_t2_loop.trips = 32 := by decide
theorem trips3_eq : k0_t3_loop.trips = 128 := by decide
theorem trips4_eq : k0_t4_loop.trips = 128 := by decide

theorem cond1_iff : ∀ k : Fin k0_t2_loop.trips, k0_cond1 k = 1#1 ↔ k.val ≠ 0 := by decide +kernel
theorem cond2_iff : ∀ k : Fin k0_t2_loop.trips, k0_cond2 k = 1#1 ↔ k.val ≠ 31 := by decide +kernel
theorem cond3_iff : ∀ k : Fin k0_t2_loop.trips, k0_cond3 k = 1#1 ↔ k.val ≠ 0 := by decide +kernel
theorem cond4_iff : ∀ k : Fin k0_t2_loop.trips, k0_cond4 k = 1#1 ↔ k.val ≠ 31 := by decide +kernel

/-- Chunk number `n` (below 64 wherever it is used). -/
abbrev ck (n : ℕ) : Fin 64 := Fin.ofNat 64 n
theorem ck_val {n : ℕ} (h : n < 64) : (ck n).val = n := Nat.mod_eq_of_lt h

/-! ## The program's offsets at these names -/

theorem off11_eq (i : grid0.Coords) (r : Fin 2) : k0_off11 i (BitVec.ofNat 32 (2048 * r.val)) = xOff i (ck r.val) := by
  have hg : (ck r.val).val = r.val := ck_val (by omega)
  rw [k0_off11_eq, xOff, hg]
theorem off12_eq (i : grid0.Coords) (k : Fin k0_t2_loop.trips) (r : Fin 2) :
    k0_off12 i k (BitVec.ofNat 32 r.val) = xOff i (ck (2 * k.val + r.val)) := by
  have hk : k.val < 32 := Nat.lt_of_lt_of_eq k.isLt trips2_eq
  have hg : (ck (2 * k.val + r.val)).val = 2 * k.val + r.val := ck_val (by omega)
  have e : 262144 * (i 1).val + 131072 * (i 0).val + 4096 * k.val + 2048 * r.val
      = 262144 * (i 1).val + 131072 * (i 0).val + 2048 * (ck (2 * k.val + r.val)).val := by omega
  rw [k0_off12_eq, xOff, e]
theorem off27_eq (i : grid0.Coords) (k : Fin k0_t2_loop.trips) (hk : k.val ≠ 31) : k0_off27 i k = xOff i (ck (2 * k.val + 2)) := by
  have hk' : k.val < 32 := Nat.lt_of_lt_of_eq k.isLt trips2_eq
  have hg : (ck (2 * k.val + 2)).val = 2 * k.val + 2 := ck_val (by omega)
  have e : 262144 * (i 1).val + 131072 * (i 0).val + 4096 * k.val + 4096
      = 262144 * (i 1).val + 131072 * (i 0).val + 2048 * (ck (2 * k.val + 2)).val := by omega
  rw [k0_off27_eq, xOff, e]
theorem off41_eq (i : grid0.Coords) (k : Fin k0_t2_loop.trips) (hk : k.val ≠ 31) : k0_off41 i k = xOff i (ck (2 * k.val + 3)) := by
  have hk' : k.val < 32 := Nat.lt_of_lt_of_eq k.isLt trips2_eq
  have hg : (ck (2 * k.val + 3)).val = 2 * k.val + 3 := ck_val (by omega)
  have e : 262144 * (i 1).val + 131072 * (i 0).val + 4096 * k.val + 6144
      = 262144 * (i 1).val + 131072 * (i 0).val + 2048 * (ck (2 * k.val + 3)).val := by omega
  rw [k0_off41_eq, xOff, e]
theorem off26_eq : ∀ (i : grid0.Coords) (k : Fin k0_t2_loop.trips) (r : Fin 2),
    k0_off26 i k (BitVec.ofNat 32 r.val) = oOff i (ck (2 * k.val + r.val)) := by decide +kernel
theorem off13_eq : ∀ (i : grid0.Coords) (k : Fin k0_t2_loop.trips), k.val ≠ 0 →
    k0_off13 i k = oOff i (ck (2 * k.val - 2)) := by decide +kernel
theorem off28_eq : ∀ (i : grid0.Coords) (k : Fin k0_t2_loop.trips), k.val ≠ 0 →
    k0_off28 i k = oOff i (ck (2 * k.val - 1)) := by decide +kernel
theorem off42_eq : ∀ (i : grid0.Coords) (r : Fin 2),
    k0_off42 i (BitVec.ofNat 32 (126976 + 2048 * r.val)) = oOff i (ck (62 + r.val)) := by decide +kernel

/-! ## The equations of the program's slices -/

theorem xwin_congr {i : grid0.Coords} {off : Fin 1 → ℕ} {g : Fin 64} (e : off = xOff i g) (hh hs) :
    xM.slice (Rect.unit (s := S4194304) off S2048.size hh) hs = xwin i g := Memref.slice_unit_congr _ e _ _ _ (fun _ => rfl)
theorem owin_congr {i : grid0.Coords} {off : Fin 2 → ℕ} {g : Fin 64} (e : off = oOff i g) (hh hs) :
    oM.slice (Rect.unit (s := S32x2097152) off S16x2048.size hh) hs = owin i g := Memref.slice_unit_congr _ e _ _ _ (fun _ => rfl)

@[sl_canon] theorem xslot0 (hh hs) : (xbM.slice (Rect.unit (s := S2x2048) ![0, 0] S1x2048.size hh) hs).squeeze S2048 squeezes_S1x2048_S2048 = xslot 0 := rfl
@[sl_canon] theorem xslot1 (hh hs) : (xbM.slice (Rect.unit (s := S2x2048) ![1, 0] S1x2048.size hh) hs).squeeze S2048 squeezes_S1x2048_S2048 = xslot 1 := rfl
@[sl_canon] theorem oslot0 (hh hs) : (obM.slice (Rect.unit (s := S2x16x2048) ![0, 0, 0] S1x16x2048.size hh) hs).squeeze S16x2048 squeezes_S1x16x2048_S16x2048 = oslot 0 := rfl
@[sl_canon] theorem oslot1 (hh hs) : (obM.slice (Rect.unit (s := S2x16x2048) ![1, 0, 0] S1x16x2048.size hh) hs).squeeze S16x2048 squeezes_S1x16x2048_S16x2048 = oslot 1 := rfl
@[sl_canon] theorem cin0 (hh) : (cc0_scratch2.slice (Rect.unit (s := S2) ![0] S1.size hh)).squeeze S_ squeezes_S1_S_ = cin 0 := rfl
@[sl_canon] theorem cin1 (hh) : (cc0_scratch2.slice (Rect.unit (s := S2) ![1] S1.size hh)).squeeze S_ squeezes_S1_S_ = cin 1 := rfl
@[sl_canon] theorem cout0 (hh) : (cc0_scratch3.slice (Rect.unit (s := S2) ![0] S1.size hh)).squeeze S_ squeezes_S1_S_ = cout 0 := rfl
@[sl_canon] theorem cout1 (hh) : (cc0_scratch3.slice (Rect.unit (s := S2) ![1] S1.size hh)).squeeze S_ squeezes_S1_S_ = cout 1 := rfl

@[sl_canon] theorem xwin11_0 (i : grid0.Coords) (hh hs) : xM.slice (Rect.unit (s := S4194304) (k0_off11 i 0#32) S2048.size hh) hs = xwin i (ck 0) :=
  xwin_congr (off11_eq i 0) _ _
@[sl_canon] theorem xwin11_1 (i : grid0.Coords) (hh hs) : xM.slice (Rect.unit (s := S4194304) (k0_off11 i 2048#32) S2048.size hh) hs = xwin i (ck 1) :=
  xwin_congr (off11_eq i 1) _ _
@[sl_canon] theorem xwin12_0 (i : grid0.Coords) (k : Fin k0_t2_loop.trips) (hh hs) :
    xM.slice (Rect.unit (s := S4194304) (k0_off12 i k 0#32) S2048.size hh) hs = xwin i (ck (2 * k.val)) := xwin_congr (off12_eq i k 0) _ _
@[sl_canon] theorem xwin12_1 (i : grid0.Coords) (k : Fin k0_t2_loop.trips) (hh hs) :
    xM.slice (Rect.unit (s := S4194304) (k0_off12 i k 1#32) S2048.size hh) hs = xwin i (ck (2 * k.val + 1)) := xwin_congr (off12_eq i k 1) _ _
@[sl_canon] theorem xwin27 (i : grid0.Coords) (k : Fin k0_t2_loop.trips) (hk : k.val ≠ 31) (hh hs) :
    xM.slice (Rect.unit (s := S4194304) (k0_off27 i k) S2048.size hh) hs = xwin i (ck (2 * k.val + 2)) := xwin_congr (off27_eq i k hk) _ _
@[sl_canon] theorem xwin41 (i : grid0.Coords) (k : Fin k0_t2_loop.trips) (hk : k.val ≠ 31) (hh hs) :
    xM.slice (Rect.unit (s := S4194304) (k0_off41 i k) S2048.size hh) hs = xwin i (ck (2 * k.val + 3)) := xwin_congr (off41_eq i k hk) _ _
@[sl_canon] theorem owin26_0 (i : grid0.Coords) (k : Fin k0_t2_loop.trips) (hh hs) :
    oM.slice (Rect.unit (s := S32x2097152) (k0_off26 i k 0#32) S16x2048.size hh) hs = owin i (ck (2 * k.val)) := owin_congr (off26_eq i k 0) _ _
@[sl_canon] theorem owin26_1 (i : grid0.Coords) (k : Fin k0_t2_loop.trips) (hh hs) :
    oM.slice (Rect.unit (s := S32x2097152) (k0_off26 i k 1#32) S16x2048.size hh) hs = owin i (ck (2 * k.val + 1)) := owin_congr (off26_eq i k 1) _ _
@[sl_canon] theorem owin13 (i : grid0.Coords) (k : Fin k0_t2_loop.trips) (hk : k.val ≠ 0) (hh hs) :
    oM.slice (Rect.unit (s := S32x2097152) (k0_off13 i k) S16x2048.size hh) hs = owin i (ck (2 * k.val - 2)) := owin_congr (off13_eq i k hk) _ _
@[sl_canon] theorem owin28 (i : grid0.Coords) (k : Fin k0_t2_loop.trips) (hk : k.val ≠ 0) (hh hs) :
    oM.slice (Rect.unit (s := S32x2097152) (k0_off28 i k) S16x2048.size hh) hs = owin i (ck (2 * k.val - 1)) := owin_congr (off28_eq i k hk) _ _
@[sl_canon] theorem owin42_0 (i : grid0.Coords) (hh hs) :
    oM.slice (Rect.unit (s := S32x2097152) (k0_off42 i 126976#32) S16x2048.size hh) hs = owin i (ck 62) := owin_congr (off42_eq i 0) _ _
@[sl_canon] theorem owin42_1 (i : grid0.Coords) (hh hs) :
    oM.slice (Rect.unit (s := S32x2097152) (k0_off42 i 129024#32) S16x2048.size hh) hs = owin i (ck 63) := owin_congr (off42_eq i 1) _ _

end Cert.Spike

end
-- ==== Proof.Latency.lean ====
/- The mathematics of one element: the spike time of `x` is `10 · (1 - sigmoid x)` rounded to the nearest integer,
   ties to even. It is one of the integers 0, …, 10 at every extended real, the infinities included, so converting
   it to a 32-bit word and clipping it to [0, 15] changes nothing. -/
module

public import Idealize.ShloMosaic.PureOps.Ideal
public import Idealize.ShloMosaic.PureOps.Ideal.Laws
public import Idealize.ShloMosaic.Lib.IdealHost

@[expose] public section

noncomputable section

namespace Cert.Spike

open Idealize.ShloMosaic

/-- `sigmoid x = 1 / (1 + e^(-x))` over the extended reals. -/
def sigm (x : EReal) : EReal := Ideal.div 1 (1 + Ideal.exp (-x))

/-- The spike time of an element. -/
def latency (x : EReal) : EReal := Ideal.liftRound Ideal.roundHalfEven (10 * (1 - sigm x))

/-- The spike train of an element at time step `k`: one exactly at its spike time. -/
def spike (x : EReal) (k : ℕ) : EReal := if latency x = ((k : ℝ) : EReal) then 1 else 0

/-- The sigmoid is a real number between zero and one, at the infinities too. -/
theorem sigm_real (x : EReal) : ∃ r : ℝ, 0 ≤ r ∧ r ≤ 1 ∧ sigm x = (r : EReal) := by
  induction x using EReal.rec with
  | bot =>
    refine ⟨0, le_rfl, zero_le_one, ?_⟩
    have h : (1 : EReal) + ⊤ = ⊤ := EReal.add_top_of_ne_bot (by exact_mod_cast EReal.coe_ne_bot 1)
    simp [sigm, Ideal.div, h]
  | top =>
    refine ⟨1, zero_le_one, le_rfl, ?_⟩
    have h1 : (1 : EReal)⁻¹ = 1 := by
      rw [show (1 : EReal) = ((1 : ℝ) : EReal) from rfl, ← EReal.coe_inv]; norm_num
    simp [sigm, Ideal.div, h1]
  | coe r =>
    have hp : 0 < 1 + Real.exp (-r) := by positivity
    refine ⟨(1 + Real.exp (-r))⁻¹, inv_nonneg.mpr hp.le, inv_le_one_of_one_le₀ (by linarith [Real.exp_pos (-r)]), ?_⟩
    have e : (1 : EReal) + Ideal.exp (-(r : EReal)) = ((1 + Real.exp (-r) : ℝ) : EReal) := by
      rw [← EReal.coe_neg, Ideal.exp_coe, EReal.coe_add]; rfl
    unfold sigm Ideal.div
    rw [e, if_neg (by exact_mod_cast hp.ne'), one_mul, ← EReal.coe_inv]

/-- Rounding to nearest, ties to even, keeps the interval [0, 10]. -/
theorem roundHalfEven_bounds (y : ℝ) (h0 : 0 ≤ y) (h1 : y ≤ 10) :
    0 ≤ Ideal.roundHalfEven y ∧ Ideal.roundHalfEven y ≤ 10 := by
  have hf0 : 0 ≤ ⌊y⌋ := Int.floor_nonneg.mpr h0
  have hfy : ((⌊y⌋ : ℤ) : ℝ) ≤ y := Int.floor_le y
  have hf1 : ⌊y⌋ ≤ 10 := by
    have : ((⌊y⌋ : ℤ) : ℝ) ≤ ((10 : ℤ) : ℝ) := by push_cast; linarith
    exact_mod_cast this
  have hlt : 1 / 2 ≤ y - (⌊y⌋ : ℝ) → ⌊y⌋ < 10 := fun h => by
    have : ((⌊y⌋ : ℤ) : ℝ) < ((10 : ℤ) : ℝ) := by push_cast; linarith
    exact_mod_cast this
  unfold Ideal.roundHalfEven
  dsimp only
  split
  · omega
  · rename_i h
    have := hlt (not_lt.mp h)
    split
    · omega
    · split <;> omega

/-- The spike time is one of 0, …, 10. -/
theorem latency_nat (x : EReal) : ∃ n : ℕ, n ≤ 10 ∧ latency x = ((n : ℝ) : EReal) := by
  obtain ⟨r, h0, h1, hr⟩ := sigm_real x
  have e : (10 : EReal) * (1 - (r : EReal)) = ((10 * (1 - r) : ℝ) : EReal) := by
    rw [EReal.coe_mul, EReal.coe_sub]; rfl
  obtain ⟨hb0, hb1⟩ := roundHalfEven_bounds (10 * (1 - r)) (by nlinarith) (by nlinarith)
  refine ⟨(Ideal.roundHalfEven (10 * (1 - r))).toNat, by omega, ?_⟩
  unfold latency
  rw [hr, e, Ideal.liftRound_coe]
  congr 1
  have : ((Ideal.roundHalfEven (10 * (1 - r))).toNat : ℤ) = Ideal.roundHalfEven (10 * (1 - r)) := Int.toNat_of_nonneg hb0
  exact_mod_cast this.symm

/-- An element whose spike time is `n` spikes at time step `k` exactly when `k = n`. -/
theorem spike_of {x : EReal} {n : ℕ} (h : latency x = ((n : ℝ) : EReal)) (k : ℕ) : spike x k = if n = k then 1 else 0 := by
  unfold spike
  rw [h]
  refine if_congr ?_ rfl rfl
  rw [EReal.coe_eq_coe_iff]
  exact Nat.cast_inj

/-- From the eleventh time step on there is no spike. -/
theorem spike_late (x : EReal) (k : ℕ) (hk : 10 < k) : spike x k = 0 := by
  obtain ⟨n, hn, h⟩ := latency_nat x
  rw [spike_of h, if_neg (by omega)]

/-- A natural number below 2³¹, converted to a word. -/
theorem fptosi_nat (n : ℕ) (hn : n < 2 ^ 31) : Ideal.fptosi 32 ((n : ℝ) : EReal) = BitVec.ofNat 32 n := by
  unfold Ideal.fptosi Ideal.toIntClamped
  have h0 : (0 : ℝ) ≤ (n : ℝ) := Nat.cast_nonneg n
  show BitVec.ofInt 32 (max _ (min _ (if 0 ≤ (n : ℝ) then ⌊(n : ℝ)⌋ else ⌈(n : ℝ)⌉))) = _
  rw [if_pos h0, Int.floor_natCast]
  have : max (-((2 ^ (32 - 1) : ℕ) : ℤ)) (min (((2 ^ (32 - 1) : ℕ) : ℤ) - 1) (n : ℤ)) = (n : ℤ) := by
    norm_num; omega
  rw [this, BitVec.ofInt_natCast]

/-- The single-precision word of 10 is the number ten. -/
theorem ofBits_ten : Ideal.ofBits .f32 0x41200000#32 = 10 := by
  rw [show (10 : EReal) = ((10 : ℝ) : EReal) by norm_cast]
  simp [Ideal.ofBits, Ideal.ieee, -EReal.coe_mul]; norm_num

end Cert.Spike

end
-- ==== Proof.Lanes.lean ====
/-
  What the SparseCore kernel stores for one element, over any float values: `lane k x` at time step `k` is one where
  the rounded spike time of `x` equals `k` for `k ≤ 10`, and zero at the five later steps. Every vector the kernel
  stores is a row of such lanes; over the extended reals `lane k x` is `spike x k`.
-/
module

public import proofs.«01_k».proof.Defs
public import Idealize.ShloMosaic.Lib.Pipeline.Value
public import Idealize.ShloMosaic.Lib.ValueIdx
public import Idealize.ShloMosaic.Lib.ValueIdxCoords
public import Idealize.ShloMosaic.Lib.Tactic
public import proofs.«01_k».proof.Proof.Gen.KernelIdeal
public import proofs.«01_k».proof.Proof.Gen.KernelIdeal.Skeleton
public import proofs.«01_k».proof.Proof.Latency

@[expose] public section

noncomputable section

namespace Cert.Spike

open Cert.KernelIdeal Cert.KernelIdeal.Gen
open Idealize.ShloMosaic Idealize.ShloMosaic.ValueIdx

section AnyFloat

variable {F : FTy → Type} [FloatOps F]

abbrev zeroF : F .f32 := Scalar.ofBits .f32 0x00000000#32
abbrev oneF : F .f32 := Scalar.ofBits .f32 0x3F800000#32

/-- The rounded spike time, as the kernel computes it. -/
def timeF (x : F .f32) : F .f32 :=
  FloatOps.roundeven (FloatOps.mulf (Scalar.ofBits .f32 0x41200000#32)
    (FloatOps.subf oneF (FloatOps.divf oneF (FloatOps.addf oneF (FloatOps.exp (FloatOps.subf zeroF x))))))

/-- The word of the time step `k ≤ 10` as a float. -/
def stepWord : ℕ → BitVec 32
  | 0 => 0x00000000#32 | 1 => 0x3F800000#32 | 2 => 0x40000000#32 | 3 => 0x40400000#32 | 4 => 0x40800000#32
  | 5 => 0x40A00000#32 | 6 => 0x40C00000#32 | 7 => 0x40E00000#32 | 8 => 0x41000000#32 | 9 => 0x41100000#32
  | _ => 0x41200000#32

/-- The spike of `x` at time step `k`, as the kernel computes it. -/
def lane (k : ℕ) (x : F .f32) : F .f32 :=
  if k < 11 then Scalar.select (FloatOps.cmpf .oeq (timeF x) (Scalar.ofBits .f32 (stepWord k))) oneF zeroF else zeroF

theorem lane_late (k : ℕ) (hk : ¬ k < 11) (x : F .f32) : lane k x = zeroF := if_neg hk

/-- The lane of an element of a stored row. -/
def col (y : S1x1x16.Idx) : Fin 16 := y 2

/-- A vector of sixteen lanes laid out as one row of one slot. -/
theorem row_at {α : Type} (v : S16.Idx → α) (h : S16.ShapeCasts S1x1x16) (y : S1x1x16.Idx) :
    shapeCast S1x1x16 v h y = v (ix1 (col y)) := by
  have h0 : (y 0).val < 1 := (y 0).isLt
  have h1 : (y 1).val < 1 := (y 1).isLt
  refine shapeCast_apply _ _ _ (ix1 (col y)) ?_
  rw [Shape.rowMajor_val_one, Shape.rowMajor_val_three]
  show (y 2).val = ((y 0).val * 1 + (y 1).val) * 16 + (y 2).val
  omega

theorem flat_at {α : Type} (v : S1x16.Idx → α) (h : S1x16.ShapeCasts S16) (j : Fin 16) :
    shapeCast S16 v h (ix1 j) = v (ix2 0 j) := by
  refine shapeCast_apply _ _ _ (ix2 0 j) ?_
  rw [Shape.rowMajor_val_one, Shape.rowMajor_val_two]
  show 0 * 16 + j.val = j.val
  omega

theorem time_at (v : Vec F S1x16 .f32) (j : Fin 16) : k0_pay6 v (ix1 j) = timeF (v (ix2 0 j)) := by
  show timeF (shapeCast S16 v shapeCasts_S1x16_S16 (ix1 j)) = _
  rw [flat_at]

theorem time_at' (v : Vec F S1x16 .f32) (j : Fin 16) : k0_pay20 v (ix1 j) = timeF (v (ix2 0 j)) := by
  show timeF (shapeCast S16 v shapeCasts_S1x16_S16 (ix1 j)) = _
  rw [flat_at]

/-- A row stored from the comparison with one time step. -/
theorem step_at (k : ℕ) (hk : k < 11) (t : FVec F S16 .f32) (v : Vec F S1x16 .f32) (ht : ∀ j, t (ix1 j) = timeF (v (ix2 0 j))) (y : S1x1x16.Idx) :
    shapeCast S1x1x16 (select (cmpf .oeq t (broadcast S16 (Scalar.ofBits .f32 (stepWord k)))) (broadcast S16 oneF) (broadcast S16 zeroF))
      shapeCasts_S16_S1x1x16 y = lane k (v (ix2 0 (col y))) := by
  rw [row_at, lane, if_pos hk, ← ht]
  rfl

/-! ## The rows stored into the first slot, and into the second -/

theorem row0_0 (v : Vec F S1x16 .f32) (y : S1x1x16.Idx) : k0_pay7 k0_pay36 k0_pay37 v y = lane 0 (v (ix2 0 (col y))) :=
  step_at 0 (by decide) _ v (time_at v) y
theorem row0_1 (v : Vec F S1x16 .f32) (y : S1x1x16.Idx) : k0_pay8 k0_pay36 k0_pay37 v y = lane 1 (v (ix2 0 (col y))) :=
  step_at 1 (by decide) _ v (time_at v) y
theorem row0_2 (v : Vec F S1x16 .f32) (y : S1x1x16.Idx) : k0_pay10 (k0_pay9 k0_pay36 k0_pay37 v) y = lane 2 (v (ix2 0 (col y))) :=
  step_at 2 (by decide) _ v (time_at v) y
theorem row0_3 (v : Vec F S1x16 .f32) (y : S1x1x16.Idx) : k0_pay11 k0_pay36 k0_pay37 (k0_pay6 v) y = lane 3 (v (ix2 0 (col y))) :=
  step_at 3 (by decide) _ v (time_at v) y
theorem row0_4 (v : Vec F S1x16 .f32) (y : S1x1x16.Idx) : k0_pay12 k0_pay36 k0_pay37 (k0_pay6 v) y = lane 4 (v (ix2 0 (col y))) :=
  step_at 4 (by decide) _ v (time_at v) y
theorem row0_5 (v : Vec F S1x16 .f32) (y : S1x1x16.Idx) : k0_pay13 k0_pay36 k0_pay37 (k0_pay6 v) y = lane 5 (v (ix2 0 (col y))) :=
  step_at 5 (by decide) _ v (time_at v) y
theorem row0_6 (v : Vec F S1x16 .f32) (y : S1x1x16.Idx) : k0_pay15 (k0_pay14 k0_pay36 k0_pay37 (k0_pay6 v)) y = lane 6 (v (ix2 0 (col y))) :=
  step_at 6 (by decide) _ v (time_at v) y
theorem row0_7 (v : Vec F S1x16 .f32) (y : S1x1x16.Idx) : k0_pay16 k0_pay36 k0_pay37 (k0_pay6 v) y = lane 7 (v (ix2 0 (col y))) :=
  step_at 7 (by decide) _ v (time_at v) y
theorem row0_8 (v : Vec F S1x16 .f32) (y : S1x1x16.Idx) : k0_pay17 k0_pay36 k0_pay37 (k0_pay6 v) y = lane 8 (v (ix2 0 (col y))) :=
  step_at 8 (by decide) _ v (time_at v) y
theorem row0_9 (v : Vec F S1x16 .f32) (y : S1x1x16.Idx) : k0_pay18 k0_pay36 k0_pay37 (k0_pay6 v) y = lane 9 (v (ix2 0 (col y))) :=
  step_at 9 (by decide) _ v (time_at v) y
theorem row0_10 (v : Vec F S1x16 .f32) (y : S1x1x16.Idx) : k0_pay34 (k0_pay19 k0_pay36 k0_pay37 (k0_pay6 v)) y = lane 10 (v (ix2 0 (col y))) :=
  step_at 10 (by decide) _ v (time_at v) y
theorem row1_0 (v : Vec F S1x16 .f32) (y : S1x1x16.Idx) : k0_pay21 k0_pay36 k0_pay37 v y = lane 0 (v (ix2 0 (col y))) :=
  step_at 0 (by decide) _ v (time_at' v) y
theorem row1_1 (v : Vec F S1x16 .f32) (y : S1x1x16.Idx) : k0_pay22 k0_pay36 k0_pay37 v y = lane 1 (v (ix2 0 (col y))) :=
  step_at 1 (by decide) _ v (time_at' v) y
theorem row1_2 (v : Vec F S1x16 .f32) (y : S1x1x16.Idx) : k0_pay24 (k0_pay23 k0_pay36 k0_pay37 v) y = lane 2 (v (ix2 0 (col y))) :=
  step_at 2 (by decide) _ v (time_at' v) y
theorem row1_3 (v : Vec F S1x16 .f32) (y : S1x1x16.Idx) : k0_pay25 k0_pay36 k0_pay37 (k0_pay20 v) y = lane 3 (v (ix2 0 (col y))) :=
  step_at 3 (by decide) _ v (time_at' v) y
theorem row1_4 (v : Vec F S1x16 .f32) (y : S1x1x16.Idx) : k0_pay26 k0_pay36 k0_pay37 (k0_pay20 v) y = lane 4 (v (ix2 0 (col y))) :=
  step_at 4 (by decide) _ v (time_at' v) y
theorem row1_5 (v : Vec F S1x16 .f32) (y : S1x1x16.Idx) : k0_pay27 k0_pay36 k0_pay37 (k0_pay20 v) y = lane 5 (v (ix2 0 (col y))) :=
  step_at 5 (by decide) _ v (time_at' v) y
theorem row1_6 (v : Vec F S1x16 .f32) (y : S1x1x16.Idx) : k0_pay29 (k0_pay28 k0_pay36 k0_pay37 (k0_pay20 v)) y = lane 6 (v (ix2 0 (col y))) :=
  step_at 6 (by decide) _ v (time_at' v) y
theorem row1_7 (v : Vec F S1x16 .f32) (y : S1x1x16.Idx) : k0_pay30 k0_pay36 k0_pay37 (k0_pay20 v) y = lane 7 (v (ix2 0 (col y))) :=
  step_at 7 (by decide) _ v (time_at' v) y
theorem row1_8 (v : Vec F S1x16 .f32) (y : S1x1x16.Idx) : k0_pay31 k0_pay36 k0_pay37 (k0_pay20 v) y = lane 8 (v (ix2 0 (col y))) :=
  step_at 8 (by decide) _ v (time_at' v) y
theorem row1_9 (v : Vec F S1x16 .f32) (y : S1x1x16.Idx) : k0_pay32 k0_pay36 k0_pay37 (k0_pay20 v) y = lane 9 (v (ix2 0 (col y))) :=
  step_at 9 (by decide) _ v (time_at' v) y
theorem row1_10 (v : Vec F S1x16 .f32) (y : S1x1x16.Idx) : k0_pay35 (k0_pay33 k0_pay36 k0_pay37 (k0_pay20 v)) y = lane 10 (v (ix2 0 (col y))) :=
  step_at 10 (by decide) _ v (time_at' v) y
theorem row0_11 (y : S1x1x16.Idx) : (k0_pay1 k0_pay36 : FVec F S1x1x16 .f32) y = zeroF := row_at (broadcast S16 zeroF) shapeCasts_S16_S1x1x16 y
theorem row0_12 (y : S1x1x16.Idx) : (k0_pay2 k0_pay36 : FVec F S1x1x16 .f32) y = zeroF := row_at (broadcast S16 zeroF) shapeCasts_S16_S1x1x16 y
theorem row0_13 (y : S1x1x16.Idx) : (k0_pay3 k0_pay36 : FVec F S1x1x16 .f32) y = zeroF := row_at (broadcast S16 zeroF) shapeCasts_S16_S1x1x16 y
theorem row0_14 (y : S1x1x16.Idx) : (k0_pay4 k0_pay36 : FVec F S1x1x16 .f32) y = zeroF := row_at (broadcast S16 zeroF) shapeCasts_S16_S1x1x16 y
theorem row0_15 (y : S1x1x16.Idx) : (k0_pay5 k0_pay36 : FVec F S1x1x16 .f32) y = zeroF := row_at (broadcast S16 zeroF) shapeCasts_S16_S1x1x16 y
theorem row1_11 (y : S1x1x16.Idx) : (k0_pay38 : FVec F S1x1x16 .f32) y = zeroF := row_at (broadcast S16 zeroF) shapeCasts_S16_S1x1x16 y
theorem row1_12 (y : S1x1x16.Idx) : (k0_pay39 : FVec F S1x1x16 .f32) y = zeroF := row_at (broadcast S16 zeroF) shapeCasts_S16_S1x1x16 y
theorem row1_13 (y : S1x1x16.Idx) : (k0_pay40 : FVec F S1x1x16 .f32) y = zeroF := row_at (broadcast S16 zeroF) shapeCasts_S16_S1x1x16 y
theorem row1_14 (y : S1x1x16.Idx) : (k0_pay41 : FVec F S1x1x16 .f32) y = zeroF := row_at (broadcast S16 zeroF) shapeCasts_S16_S1x1x16 y
theorem row1_15 (y : S1x1x16.Idx) : (k0_pay42 : FVec F S1x1x16 .f32) y = zeroF := row_at (broadcast S16 zeroF) shapeCasts_S16_S1x1x16 y

end AnyFloat

/-! ## Over the extended reals -/

theorem time_ideal (x : EReal) : timeF (F := Ideal) x = latency x := by
  show Ideal.liftRound Ideal.roundHalfEven (Ideal.ofBits .f32 0x41200000#32 * (Ideal.ofBits .f32 0x3F800000#32
    - Ideal.div (Ideal.ofBits .f32 0x3F800000#32) (Ideal.ofBits .f32 0x3F800000#32 + Ideal.exp (Ideal.ofBits .f32 0x00000000#32 - x)))) = _
  rw [ofBits_ten, Ideal.ofBits_one_f32, Ideal.ofBits_zero_f32, zero_sub]
  rfl

theorem stepWord_ideal (k : ℕ) (hk : k < 11) : Ideal.ofBits .f32 (stepWord k) = ((k : ℝ) : EReal) := by
  interval_cases k <;> simp [stepWord, Ideal.ofBits, Ideal.ieee, -EReal.coe_mul] <;> norm_num

theorem lane_ideal (x : EReal) (k : ℕ) : lane (F := Ideal) k x = spike x k := by
  by_cases hk : k < 11
  · rw [lane, if_pos hk, time_ideal]
    show Scalar.select (Ideal.cmp .oeq (latency x) (Ideal.ofBits .f32 (stepWord k))) (Ideal.ofBits .f32 0x3F800000#32) (Ideal.ofBits .f32 0x00000000#32) = _
    rw [stepWord_ideal k hk, Ideal.ofBits_one_f32, Ideal.ofBits_zero_f32]
    rw [show Ideal.cmp .oeq (latency x) ((k : ℝ) : EReal) = BitVec.ofBool (decide (latency x = ((k : ℝ) : EReal))) from rfl]
    unfold spike Scalar.select
    by_cases h : latency x = ((k : ℝ) : EReal)
    · rw [if_pos h, decide_eq_true h]; rfl
    · rw [if_neg h, decide_eq_false h]; rfl
  · rw [lane_late k hk, spike_late x k (by omega)]
    exact Ideal.ofBits_zero_f32

end Cert.Spike
-- ==== Proof.Slots.lean ====
/-
  What the two scratches hold, element by element: `rdx f s j` is element `j` of slot `s` of the inputs' scratch, `rdo f s k j`
  row `k`, column `j` of slot `s` of the rows' scratch. Read here: a store of sixteen lanes into one row (`rdo_store`), the
  trips' stores by their count of rows (`Upd`), a slot read and written through its own name by the transfers, and the
  windows of the flat input and of the array of rows.
-/
module

public import proofs.«01_k».proof.Proof.Windows
public import proofs.«01_k».proof.Proof.Lanes
public import Idealize.ShloMosaic.Lib.WritesUnit

@[expose] public section

noncomputable section

namespace Cert.Spike

open Cert.KernelIdeal Cert.KernelIdeal.Gen
open Idealize.ShloMosaic Idealize.ShloMosaic.ValueIdx

variable {F : FTy → Type} [FloatOps F]

def rdx (f : xbM.view.ty.Contents (Elt F)) (s : Fin 2) (j : Fin 2048) : F .f32 := xbM.view.read (Elt F) f (ix2 s j)
def rdo (f : obM.view.ty.Contents (Elt F)) (s : Fin 2) (k : Fin 16) (j : Fin 2048) : F .f32 := obM.view.read (Elt F) f (ix3 s k j)

/-! ## One store of sixteen lanes -/

theorem rdo_store {off : Fin 3 → ℕ} {s0 r c : ℕ} (e : off = ![s0, r, c]) (inb : ∀ a, off a + S1x1x16.size a ≤ S2x16x2048.size a)
    (g : obM.view.ty.Contents (Elt F)) (w : S1x1x16.Idx → F .f32) (val : Fin 2048 → F .f32)
    (hw : ∀ (y : S1x1x16.Idx) (j : Fin 2048), j.val = c + (col y).val → w y = val j) (s : Fin 2) (k : Fin 16) (j : Fin 2048) :
    rdo (View.write (Elt F) (obM.access (Rect.unit (s := S2x16x2048) off S1x1x16.size inb)) g w Finset.univ) s k j
      = if s.val = s0 ∧ k.val = r ∧ c ≤ j.val ∧ j.val < c + 16 then val j else rdo g s k j := by
  have hc := View.read_writes_cons_unit obM.view g inb w [] (ix3 s k j) e
  unfold rdo
  refine hc.trans ?_
  by_cases h : s.val = s0 ∧ k.val = r ∧ c ≤ j.val ∧ j.val < c + 16
  · obtain ⟨h0, h1, h2, h3⟩ := h
    rw [if_pos ⟨h0, h1, h2, h3⟩, dif_pos (by
      intro a
      match a with
      | ⟨0, _⟩ => exact ⟨by show s0 ≤ s.val; omega, by show s.val < s0 + 1; omega⟩
      | ⟨1, _⟩ => exact ⟨by show r ≤ k.val; omega, by show k.val < r + 1; omega⟩
      | ⟨2, _⟩ => exact ⟨h2, h3⟩)]
    refine hw _ _ ?_
    show j.val = c + (j.val - c)
    omega
  · rw [if_neg h, dif_neg (by
      intro ha
      have a0 : s0 ≤ s.val ∧ s.val < s0 + 1 := ha 0
      have a1 : r ≤ k.val ∧ k.val < r + 1 := ha 1
      have a2 : c ≤ j.val ∧ j.val < c + 16 := ha 2
      exact h ⟨by omega, by omega, a2.1, a2.2⟩)]
    rfl

/-- `f` is `fo` with rows `a ≤ k < n` of slot `s0` set, in the columns of trip `t`, to the lanes of `X`. -/
def Upd (s0 t a n : ℕ) (X : Fin 2048 → F .f32) (fo f : obM.view.ty.Contents (Elt F)) : Prop :=
  ∀ (s : Fin 2) (k : Fin 16) (j : Fin 2048), rdo f s k j
    = if s.val = s0 ∧ (a ≤ k.val ∧ k.val < n) ∧ 16 * t ≤ j.val ∧ j.val < 16 * t + 16 then lane k.val (X j) else rdo fo s k j

theorem Upd.zero (s0 t a : ℕ) (X : Fin 2048 → F .f32) (fo : obM.view.ty.Contents (Elt F)) : Upd s0 t a a X fo fo := fun s k j => by
  rw [if_neg (by omega)]

theorem Upd.step {s0 t a n : ℕ} {X : Fin 2048 → F .f32} {fo g : obM.view.ty.Contents (Elt F)} (h : Upd s0 t a n X fo g) (ha : a ≤ n)
    {off : Fin 3 → ℕ} (e : off = ![s0, n, 16 * t]) (inb : ∀ a, off a + S1x1x16.size a ≤ S2x16x2048.size a) (w : S1x1x16.Idx → F .f32)
    (hw : ∀ (y : S1x1x16.Idx) (j : Fin 2048), j.val = 16 * t + (col y).val → w y = lane n (X j)) :
    Upd s0 t a (n + 1) X fo (View.write (Elt F) (obM.access (Rect.unit (s := S2x16x2048) off S1x1x16.size inb)) g w Finset.univ) := fun s k j => by
  rw [rdo_store e inb g w (fun j => lane n (X j)) hw, h s k j]
  by_cases h1 : s.val = s0 ∧ k.val = n ∧ 16 * t ≤ j.val ∧ j.val < 16 * t + 16
  · rw [if_pos h1, if_pos (by omega), h1.2.1]
  · rw [if_neg h1]
    refine if_congr ?_ rfl rfl
    omega

/-- The sixteen inputs of trip `t`, loaded from slot `s`. -/
theorem load_at {off : Fin 2 → ℕ} {s0 t : ℕ} (e : off = ![s0, 16 * t]) (inb : ∀ a, off a + S1x16.size a ≤ S2x2048.size a) (f : xbM.view.ty.Contents (Elt F))
    (s : Fin 2) (hs : s.val = s0) (l : Fin 16) (j : Fin 2048) (hj : j.val = 16 * t + l.val) :
    (View.readAt (Elt F) xbM.view (Rect.unit (s := S2x2048) off S1x16.size inb).toLoadRect f : S1x16.Idx → F .f32) (ix2 0 l) = rdx f s j := by
  subst e
  show xbM.view.read (Elt F) f _ = xbM.view.read (Elt F) f _
  congr 1
  funext a
  match a with
  | ⟨0, _⟩ => exact Fin.ext (by show s0 + 1 * 0 = s.val; omega)
  | ⟨1, _⟩ => exact Fin.ext (by show 16 * t + 1 * l.val = j.val; omega)

/-- A store of the lanes of row `n` for the sixteen inputs loaded from slot `s`. -/
theorem Upd.stepLoad {s0 t a n : ℕ} {s : Fin 2} {fx : xbM.view.ty.Contents (Elt F)} {fo g : obM.view.ty.Contents (Elt F)}
    (h : Upd s0 t a n (rdx fx s) fo g) (ha : a ≤ n) (hs : s.val = s0)
    {offl : Fin 2 → ℕ} (el : offl = ![s0, 16 * t]) (inbl : ∀ a, offl a + S1x16.size a ≤ S2x2048.size a)
    {off : Fin 3 → ℕ} (e : off = ![s0, n, 16 * t]) (inb : ∀ a, off a + S1x1x16.size a ≤ S2x16x2048.size a) (w : S1x1x16.Idx → F .f32)
    (hw : ∀ y : S1x1x16.Idx, w y = lane n
      ((View.readAt (Elt F) xbM.view (Rect.unit (s := S2x2048) offl S1x16.size inbl).toLoadRect fx : S1x16.Idx → F .f32) (ix2 0 (col y)))) :
    Upd s0 t a (n + 1) (rdx fx s) fo (View.write (Elt F) (obM.access (Rect.unit (s := S2x16x2048) off S1x1x16.size inb)) g w Finset.univ) :=
  h.step ha e inb w fun y j hj => (hw y).trans (congrArg (lane n) (load_at el inbl fx s hs (col y) j hj))

/-- A store of zeros into a row past the last step. -/
theorem Upd.stepZero {s0 t a n : ℕ} {X : Fin 2048 → F .f32} {fo g : obM.view.ty.Contents (Elt F)} (h : Upd s0 t a n X fo g) (ha : a ≤ n)
    (hn : ¬ n < 11) {off : Fin 3 → ℕ} (e : off = ![s0, n, 16 * t]) (inb : ∀ a, off a + S1x1x16.size a ≤ S2x16x2048.size a)
    (w : S1x1x16.Idx → F .f32) (hw : ∀ y : S1x1x16.Idx, w y = zeroF) :
    Upd s0 t a (n + 1) X fo (View.write (Elt F) (obM.access (Rect.unit (s := S2x16x2048) off S1x1x16.size inb)) g w Finset.univ) :=
  h.step ha e inb w fun y j _ => (hw y).trans (lane_late n hn (X j)).symm

/-- Slot `s`'s rows past the last step are zero in the columns before trip `n`. -/
def Zeros (s : Fin 2) (n : ℕ) (f : obM.view.ty.Contents (Elt F)) : Prop :=
  ∀ (k : Fin 16) (j : Fin 2048), 11 ≤ k.val → j.val < 16 * n → rdo f s k j = zeroF
/-- Slot `s`'s rows of the steps hold the lanes of `X` in the columns before trip `n`. -/
def Steps (s : Fin 2) (n : ℕ) (X : Fin 2048 → F .f32) (f : obM.view.ty.Contents (Elt F)) : Prop :=
  ∀ (k : Fin 16) (j : Fin 2048), k.val < 11 → j.val < 16 * n → rdo f s k j = lane k.val (X j)

theorem Zeros.zero (s : Fin 2) (f : obM.view.ty.Contents (Elt F)) : Zeros s 0 f := fun k j _ h => absurd h (by omega)
theorem Steps.zero (s : Fin 2) (X : Fin 2048 → F .f32) (f : obM.view.ty.Contents (Elt F)) : Steps s 0 X f := fun k j _ h => absurd h (by omega)

theorem Zeros.step {s : Fin 2} {n : ℕ} {X : Fin 2048 → F .f32} {fo f : obM.view.ty.Contents (Elt F)} (h : Zeros s n fo)
    (hu : Upd s.val n 11 16 X fo f) : Zeros s (n + 1) f := fun k j hk hj => by
  have hk' := k.isLt
  rw [hu s k j]
  by_cases hc : 16 * n ≤ j.val
  · rw [if_pos (by omega), lane_late _ (by omega)]
  · rw [if_neg (by omega), h k j hk (by omega)]

theorem Steps.step {s : Fin 2} {n : ℕ} {X : Fin 2048 → F .f32} {fo f : obM.view.ty.Contents (Elt F)} (h : Steps s n X fo)
    (hu : Upd s.val n 0 11 X fo f) : Steps s (n + 1) X f := fun k j hk hj => by
  rw [hu s k j]
  by_cases hc : 16 * n ≤ j.val
  · rw [if_pos (by omega)]
  · rw [if_neg (by omega), h k j hk (by omega)]

theorem Zeros.keep {s : Fin 2} {n t : ℕ} {X : Fin 2048 → F .f32} {fo f : obM.view.ty.Contents (Elt F)} (h : Zeros s n fo)
    (hu : Upd s.val t 0 11 X fo f) : Zeros s n f := fun k j hk hj => by
  rw [hu s k j, if_neg (by omega), h k j hk hj]

/-- All sixteen rows of a slot. -/
theorem rows_of {s : Fin 2} {X : Fin 2048 → F .f32} {f : obM.view.ty.Contents (Elt F)} (hz : Zeros s 128 f) (hs : Steps s 128 X f)
    (k : Fin 16) (j : Fin 2048) : rdo f s k j = lane k.val (X j) := by
  have hj := j.isLt
  by_cases hk : k.val < 11
  · exact hs k j hk (by omega)
  · rw [hz k j (by omega) (by omega), lane_late _ hk]

/-! ## A slot through its own name -/

theorem xslot_idx (s : Fin 2) (j : Fin 2048) :
    (Rect.unit (s := S2x2048) (xsOff s) S1x2048.size (xsOff_inb s)).emb (Shape.reshapeEquiv squeezes_S1x2048_S2048.numel_eq (ix1 j)) = ix2 s j := by
  rw [Shape.reshapeEquiv_eq_of_rowMajor (y := (ix2 0 j : S1x2048.Idx)) _ (by
    rw [Shape.rowMajor_val_one, Shape.rowMajor_val_two]; show 0 * 2048 + j.val = j.val; omega)]
  funext a
  match a with
  | ⟨0, _⟩ => exact Fin.ext (by show s.val + 1 * 0 = s.val; omega)
  | ⟨1, _⟩ => exact Fin.ext (by show 0 + 1 * j.val = j.val; omega)

theorem oslot_idx (s : Fin 2) (k : Fin 16) (j : Fin 2048) :
    (Rect.unit (s := S2x16x2048) (osOff s) S1x16x2048.size (osOff_inb s)).emb (Shape.reshapeEquiv squeezes_S1x16x2048_S16x2048.numel_eq (ix2 k j)) = ix3 s k j := by
  rw [Shape.reshapeEquiv_eq_of_rowMajor (y := (ix3 0 k j : S1x16x2048.Idx)) _ (by
    rw [Shape.rowMajor_val_two, Shape.rowMajor_val_three]; show (0 * 16 + k.val) * 2048 + j.val = k.val * 2048 + j.val; omega)]
  funext a
  match a with
  | ⟨0, _⟩ => exact Fin.ext (by show s.val + 1 * 0 = s.val; omega)
  | ⟨1, _⟩ => exact Fin.ext (by show 0 + 1 * k.val = k.val; omega)
  | ⟨2, _⟩ => exact Fin.ext (by show 0 + 1 * j.val = j.val; omega)

theorem xslot_read (s : Fin 2) (f : xbM.view.ty.Contents (Elt F)) (j : Fin 2048) :
    ((xslot s).view.read (Elt F) f : S2048.Idx → F .f32) (ix1 j) = rdx f s j := by
  rw [rdx, ← xslot_idx s j]; rfl

theorem oslot_read (s : Fin 2) (f : obM.view.ty.Contents (Elt F)) (k : Fin 16) (j : Fin 2048) :
    ((oslot s).view.read (Elt F) f : S16x2048.Idx → F .f32) (ix2 k j) = rdo f s k j := by
  rw [rdo, ← oslot_idx s k j]; rfl

/-- A slot of inputs just written whole. -/
theorem rdx_landed (s : Fin 2) (f : xbM.view.ty.Contents (Elt F)) (w : S2048.Idx → F .f32) (j : Fin 2048) :
    rdx ((xslot s).view.writes (Elt F) f [⟨Rect.whole S2048, w⟩]) s j = w (ix1 j) := by
  exact (xslot_read s _ j).symm.trans (congrFun (View.read_writes_whole (xslot s).view f w) (ix1 j))

/-! ## The windows of the arrays -/

def xpos (i : grid0.Coords) (g : Fin 64) (j : Fin 2048) : Fin 4194304 :=
  ⟨262144 * (i 1).val + 131072 * (i 0).val + 2048 * g.val + j.val, by
    have h1 : (i 1).val < 16 := (i 1).isLt
    have h0 : (i 0).val < 2 := (i 0).isLt
    omega⟩
def orow (i : grid0.Coords) (k : Fin 16) : Fin 32 :=
  ⟨16 * ((i 1).val / 8) + k.val, by have h1 : (i 1).val < 16 := (i 1).isLt; omega⟩
def opos (i : grid0.Coords) (g : Fin 64) (j : Fin 2048) : Fin 2097152 :=
  ⟨262144 * ((i 1).val % 8) + 131072 * (i 0).val + 2048 * g.val + j.val, by
    have h1 : (i 1).val < 16 := (i 1).isLt
    have h0 : (i 0).val < 2 := (i 0).isLt
    omega⟩

theorem xwin_idx (i : grid0.Coords) (g : Fin 64) (j : Fin 2048) :
    (Rect.unit (s := S4194304) (xOff i g) S2048.size (xOff_inb i g)).emb (ix1 j) = ix1 (xpos i g j) := by
  funext a
  match a with
  | ⟨0, _⟩ => exact Fin.ext (by
      show 262144 * (i 1).val + 131072 * (i 0).val + 2048 * g.val + 1 * j.val = 262144 * (i 1).val + 131072 * (i 0).val + 2048 * g.val + j.val; omega)

theorem owin_idx (i : grid0.Coords) (g : Fin 64) (k : Fin 16) (j : Fin 2048) :
    (Rect.unit (s := S32x2097152) (oOff i g) S16x2048.size (oOff_inb i g)).emb (ix2 k j) = ix2 (orow i k) (opos i g j) := by
  funext a
  match a with
  | ⟨0, _⟩ => exact Fin.ext (by show 16 * ((i 1).val / 8) + 1 * k.val = 16 * ((i 1).val / 8) + k.val; omega)
  | ⟨1, _⟩ => exact Fin.ext (by
      show 262144 * ((i 1).val % 8) + 131072 * (i 0).val + 2048 * g.val + 1 * j.val = 262144 * ((i 1).val % 8) + 131072 * (i 0).val + 2048 * g.val + j.val; omega)

theorem xwin_read (i : grid0.Coords) (g : Fin 64) (X : xM.view.ty.Contents (Elt F)) (j : Fin 2048) :
    ((xwin i g).view.read (Elt F) X : S2048.Idx → F .f32) (ix1 j) = (X : S4194304.Idx → F .f32) (ix1 (xpos i g j)) := by
  rw [← xwin_idx]; rfl

theorem owin_read (i : grid0.Coords) (g : Fin 64) (G : oM.view.ty.Contents (Elt F)) (k : Fin 16) (j : Fin 2048) :
    ((owin i g).view.read (Elt F) G : S16x2048.Idx → F .f32) (ix2 k j) = (G : S32x2097152.Idx → F .f32) (ix2 (orow i k) (opos i g j)) := by
  rw [← owin_idx]; rfl

/-- The rows the program leaves: in batch `r / 16`, at step `r % 16`, the spikes of that batch's flat elements. -/
def Gof (X : S4194304.Idx → F .f32) : S32x2097152.Idx → F .f32 := fun z =>
  lane ((z 0).val % 16) (X (ix1 ⟨2097152 * ((z 0).val / 16) + (z 1).val, by
    have h0 : (z 0).val < 32 := (z 0).isLt
    have h1 : (z 1).val < 2097152 := (z 1).isLt
    omega⟩))

theorem Gof_win (X : S4194304.Idx → F .f32) (i : grid0.Coords) (g : Fin 64) (k : Fin 16) (j : Fin 2048) :
    Gof X (ix2 (orow i k) (opos i g j)) = lane k.val (X (ix1 (xpos i g j))) := by
  have h1 : (i 1).val < 16 := (i 1).isLt
  have h0 : (i 0).val < 2 := (i 0).isLt
  unfold Gof
  have e0 : ((ix2 (orow i k) (opos i g j) : S32x2097152.Idx) 0).val = 16 * ((i 1).val / 8) + k.val := rfl
  have e1 : ((ix2 (orow i k) (opos i g j) : S32x2097152.Idx) 1).val
    = 262144 * ((i 1).val % 8) + 131072 * (i 0).val + 2048 * g.val + j.val := rfl
  have ea : (16 * ((i 1).val / 8) + k.val) % 16 = k.val := by omega
  have hix : ∀ {n n' : ℕ} (h : n < 4194304) (h' : n' < 4194304), n = n' → (ix1 ⟨n, h⟩ : S4194304.Idx) = ix1 ⟨n', h'⟩ := by
    rintro n _ h h' rfl; rfl
  have ek : ((ix2 (orow i k) (opos i g j) : S32x2097152.Idx) 0).val % 16 = k.val := by rw [e0, ea]
  rw [ek]
  refine congrArg (fun z => lane k.val (X z)) (hix _ _ ?_)
  rw [e0, e1]
  omega

theorem eq_of_read {sig : RefSig} {κ : Kind} {sp : Space} {s : Shape} {e : EltTy} (v : View sig κ sp s e) (f g : v.ty.Contents (Elt F))
    (h : v.read (Elt F) f = v.read (Elt F) g) : ∀ z ∈ v.set, f z = g z := by
  intro z hz
  obtain ⟨y, -, rfl⟩ := Finset.mem_map.mp hz
  exact (cast_bijective _).1 (congrFun h y)

/-- The same rows, as the contents of the array that the windows lie in. -/
def GofV (X : S4194304.Idx → F .f32) (i : grid0.Coords) (g : Fin 64) : (owin i g).view.ty.Contents (Elt F) := Gof X

/-- A window written whole with the rows of its chunk holds the rows the program is to leave. -/
theorem owin_done (i : grid0.Coords) (g : Fin 64) (X : S4194304.Idx → F .f32) (f : (owin i g).view.ty.Contents (Elt F)) (w : S16x2048.Idx → F .f32)
    (hw : ∀ k j, w (ix2 k j) = lane k.val (X (ix1 (xpos i g j)))) :
    ∀ z ∈ (owin i g).view.set, (owin i g).view.writes (Elt F) f [⟨Rect.whole S16x2048, w⟩] z = GofV X i g z := by
  refine eq_of_read (owin i g).view _ _ ?_
  rw [View.read_writes_whole]
  funext y
  obtain ⟨k, j, rfl⟩ : ∃ (k : Fin 16) (j : Fin 2048), y = ix2 k j := ⟨y 0, y 1, eq_ix2 y⟩
  rw [hw]
  exact (Gof_win X i g k j).symm.trans (owin_read i g (Gof X) k j).symm

end Cert.Spike
-- ==== Proof.VecLoop.lean ====
/- The two inner loops of a worker: clearing the rows past the last step, and computing a chunk's rows sixteen elements at a time. -/
module

public import proofs.«01_k».proof.Proof.Slots
public import Idealize.ShloMosaic.Lib.SparseCore.Quiescent

@[expose] public section

noncomputable section

namespace Cert.Spike

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters
local notation "𝕄" => MT nD τ sig (HIx 1) (Elt F) ℕ UU ℕ
abbrev 𝒱₀ : Variants := Variants.none

abbrev cV (L : grid0.Coords) : Fin τ.nSC := (L 0).castLE hcore0
abbrev jV (L : grid0.Coords) : Fin τ.nSub := (L 1).castLE hsub0
/-- The vector subcore of a worker. -/
abbrev tV (d : Dev nD) (L : grid0.Coords) : Thread nD τ := V d (cV L) (jV L)

variable (d : Dev nD) (L : grid0.Coords)

abbrev xsP (s : Fin 2) (f : Buf (Elt F) ((xslot s).view.loc (tV d L))) : sProp 𝕄 :=
  (xslot s).view.loc (tV d L) ↦[(xslot s).view.set]{fullShare} f
abbrev osP (s : Fin 2) (f : Buf (Elt F) ((oslot s).view.loc (tV d L))) : sProp 𝕄 :=
  (oslot s).view.loc (tV d L) ↦[(oslot s).view.set]{fullShare} f

/-- One trip of the lanes' loop over slot 0: sixteen inputs, a row of lanes for each of the eleven steps. -/
theorem trip3 (v5 c0 c1 : BitVec 32) (k2 : Fin k0_t2_loop.trips) (k : Fin k0_t3_loop.trips)
    (fx : Buf (Elt F) ((xslot 0).view.loc (tV d L))) (fo : Buf (Elt F) ((oslot 0).view.loc (tV d L))) :
    iprop(xsP d L 0 fx ∗ osP d L 0 fo) ⊢ wp frame (wpE (defs₀ (F := F)) 𝒱₀ (tV d L) none) Set.univ
      (k0_t3_body (F := F) L xM (Memref.isWhole_whole _) oM (Memref.isWhole_whole _) xbM (Memref.isWhole_whole _) obM (Memref.isWhole_whole _)
        cc0_scratch2 cc0_scratch3 k0_pay36 k0_pay37 v5 c0 c1 k2 k ())
      fun _ => iprop(xsP d L 0 fx ∗ ∃ fo' : Buf (Elt F) ((oslot 0).view.loc (tV d L)), ⌜Upd 0 k.val 0 11 (rdx fx 0) fo fo'⌝ ∗ osP d L 0 fo') := by
  have hk : k.val < 128 := Nat.lt_of_lt_of_eq k.isLt trips3_eq
  iintro ⟨Hx, Ho⟩
  sl_unfold [k0_t3_body]
  sl_exec
  sl_step
  isplitl [Hx]; · iexact Hx
  iexists _
  isplitr; swap
  · iexact Ho
  · ipureintro
    refine Upd.stepLoad (s0 := 0) (s := 0) (inbl := k0_off14_inb k) ?_ (Nat.zero_le _) rfl (k0_off14_eq k) (k0_off25_eq k) (k0_off25_inb k) _ (row0_10 _)
    refine Upd.stepLoad (s0 := 0) (s := 0) (inbl := k0_off14_inb k) ?_ (Nat.zero_le _) rfl (k0_off14_eq k) (k0_off24_eq k) (k0_off24_inb k) _ (row0_9 _)
    refine Upd.stepLoad (s0 := 0) (s := 0) (inbl := k0_off14_inb k) ?_ (Nat.zero_le _) rfl (k0_off14_eq k) (k0_off23_eq k) (k0_off23_inb k) _ (row0_8 _)
    refine Upd.stepLoad (s0 := 0) (s := 0) (inbl := k0_off14_inb k) ?_ (Nat.zero_le _) rfl (k0_off14_eq k) (k0_off22_eq k) (k0_off22_inb k) _ (row0_7 _)
    refine Upd.stepLoad (s0 := 0) (s := 0) (inbl := k0_off14_inb k) ?_ (Nat.zero_le _) rfl (k0_off14_eq k) (k0_off21_eq k) (k0_off21_inb k) _ (row0_6 _)
    refine Upd.stepLoad (s0 := 0) (s := 0) (inbl := k0_off14_inb k) ?_ (Nat.zero_le _) rfl (k0_off14_eq k) (k0_off20_eq k) (k0_off20_inb k) _ (row0_5 _)
    refine Upd.stepLoad (s0 := 0) (s := 0) (inbl := k0_off14_inb k) ?_ (Nat.zero_le _) rfl (k0_off14_eq k) (k0_off19_eq k) (k0_off19_inb k) _ (row0_4 _)
    refine Upd.stepLoad (s0 := 0) (s := 0) (inbl := k0_off14_inb k) ?_ (Nat.zero_le _) rfl (k0_off14_eq k) (k0_off18_eq k) (k0_off18_inb k) _ (row0_3 _)
    refine Upd.stepLoad (s0 := 0) (s := 0) (inbl := k0_off14_inb k) ?_ (Nat.zero_le _) rfl (k0_off14_eq k) (k0_off17_eq k) (k0_off17_inb k) _ (row0_2 _)
    refine Upd.stepLoad (s0 := 0) (s := 0) (inbl := k0_off14_inb k) ?_ (Nat.zero_le _) rfl (k0_off14_eq k) (k0_off16_eq k) (k0_off16_inb k) _ (row0_1 _)
    refine Upd.stepLoad (s0 := 0) (s := 0) (inbl := k0_off14_inb k) ?_ (Nat.zero_le _) rfl (k0_off14_eq k) (k0_off15_eq k) (k0_off15_inb k) _ (row0_0 _)
    exact Upd.zero _ _ _ _ _

/-- One trip of the lanes' loop over slot 1: sixteen inputs, a row of lanes for each of the eleven steps. -/
theorem trip4 (v5 v140 c0 : BitVec 32) (k2 : Fin k0_t2_loop.trips) (k : Fin k0_t4_loop.trips)
    (fx : Buf (Elt F) ((xslot 1).view.loc (tV d L))) (fo : Buf (Elt F) ((oslot 1).view.loc (tV d L))) :
    iprop(xsP d L 1 fx ∗ osP d L 1 fo) ⊢ wp frame (wpE (defs₀ (F := F)) 𝒱₀ (tV d L) none) Set.univ
      (k0_t4_body (F := F) L xM (Memref.isWhole_whole _) oM (Memref.isWhole_whole _) xbM (Memref.isWhole_whole _) obM (Memref.isWhole_whole _)
        cc0_scratch2 cc0_scratch3 k0_pay36 k0_pay37 v5 k2 v140 c0 k ())
      fun _ => iprop(xsP d L 1 fx ∗ ∃ fo' : Buf (Elt F) ((oslot 1).view.loc (tV d L)), ⌜Upd 1 k.val 0 11 (rdx fx 1) fo fo'⌝ ∗ osP d L 1 fo') := by
  have hk : k.val < 128 := Nat.lt_of_lt_of_eq k.isLt trips4_eq
  iintro ⟨Hx, Ho⟩
  sl_unfold [k0_t4_body]
  sl_exec
  sl_step
  isplitl [Hx]; · iexact Hx
  iexists _
  isplitr; swap
  · iexact Ho
  · ipureintro
    refine Upd.stepLoad (s0 := 1) (s := 1) (inbl := k0_off29_inb k) ?_ (Nat.zero_le _) rfl (k0_off29_eq k) (k0_off40_eq k) (k0_off40_inb k) _ (row1_10 _)
    refine Upd.stepLoad (s0 := 1) (s := 1) (inbl := k0_off29_inb k) ?_ (Nat.zero_le _) rfl (k0_off29_eq k) (k0_off39_eq k) (k0_off39_inb k) _ (row1_9 _)
    refine Upd.stepLoad (s0 := 1) (s := 1) (inbl := k0_off29_inb k) ?_ (Nat.zero_le _) rfl (k0_off29_eq k) (k0_off38_eq k) (k0_off38_inb k) _ (row1_8 _)
    refine Upd.stepLoad (s0 := 1) (s := 1) (inbl := k0_off29_inb k) ?_ (Nat.zero_le _) rfl (k0_off29_eq k) (k0_off37_eq k) (k0_off37_inb k) _ (row1_7 _)
    refine Upd.stepLoad (s0 := 1) (s := 1) (inbl := k0_off29_inb k) ?_ (Nat.zero_le _) rfl (k0_off29_eq k) (k0_off36_eq k) (k0_off36_inb k) _ (row1_6 _)
    refine Upd.stepLoad (s0 := 1) (s := 1) (inbl := k0_off29_inb k) ?_ (Nat.zero_le _) rfl (k0_off29_eq k) (k0_off35_eq k) (k0_off35_inb k) _ (row1_5 _)
    refine Upd.stepLoad (s0 := 1) (s := 1) (inbl := k0_off29_inb k) ?_ (Nat.zero_le _) rfl (k0_off29_eq k) (k0_off34_eq k) (k0_off34_inb k) _ (row1_4 _)
    refine Upd.stepLoad (s0 := 1) (s := 1) (inbl := k0_off29_inb k) ?_ (Nat.zero_le _) rfl (k0_off29_eq k) (k0_off33_eq k) (k0_off33_inb k) _ (row1_3 _)
    refine Upd.stepLoad (s0 := 1) (s := 1) (inbl := k0_off29_inb k) ?_ (Nat.zero_le _) rfl (k0_off29_eq k) (k0_off32_eq k) (k0_off32_inb k) _ (row1_2 _)
    refine Upd.stepLoad (s0 := 1) (s := 1) (inbl := k0_off29_inb k) ?_ (Nat.zero_le _) rfl (k0_off29_eq k) (k0_off31_eq k) (k0_off31_inb k) _ (row1_1 _)
    refine Upd.stepLoad (s0 := 1) (s := 1) (inbl := k0_off29_inb k) ?_ (Nat.zero_le _) rfl (k0_off29_eq k) (k0_off30_eq k) (k0_off30_inb k) _ (row1_0 _)
    exact Upd.zero _ _ _ _ _

/-- One trip of the first loop: zeros into the rows past the last step, in both slots. -/
theorem trip1 (k : Fin k0_t1_loop.trips) (X : Fin 2048 → F .f32)
    (f0 : Buf (Elt F) ((oslot 0).view.loc (tV d L))) (f1 : Buf (Elt F) ((oslot 1).view.loc (tV d L))) :
    iprop(osP d L 0 f0 ∗ osP d L 1 f1) ⊢ wp frame (wpE (defs₀ (F := F)) 𝒱₀ (tV d L) none) Set.univ
      (k0_t1_body (F := F) L xM (Memref.isWhole_whole _) oM (Memref.isWhole_whole _) xbM (Memref.isWhole_whole _) obM (Memref.isWhole_whole _)
        cc0_scratch2 cc0_scratch3 k ())
      fun _ => iprop((∃ f0' : Buf (Elt F) ((oslot 0).view.loc (tV d L)), ⌜Upd 0 k.val 11 16 X f0 f0'⌝ ∗ osP d L 0 f0')
        ∗ ∃ f1' : Buf (Elt F) ((oslot 1).view.loc (tV d L)), ⌜Upd 1 k.val 11 16 X f1 f1'⌝ ∗ osP d L 1 f1') := by
  have hk : k.val < 128 := Nat.lt_of_lt_of_eq k.isLt trips1_eq
  iintro ⟨H0, H1⟩
  sl_unfold [k0_t1_body]
  sl_exec
  sl_step
  isplitl [H0]
  · iexists _
    isplitr; swap
    · iexact H0
    · ipureintro
      refine Upd.stepZero ?_ (by decide) (by decide) (k0_off5_eq k) (k0_off5_inb k) _ row0_15
      refine Upd.stepZero ?_ (by decide) (by decide) (k0_off4_eq k) (k0_off4_inb k) _ row0_14
      refine Upd.stepZero ?_ (by decide) (by decide) (k0_off3_eq k) (k0_off3_inb k) _ row0_13
      refine Upd.stepZero ?_ (by decide) (by decide) (k0_off2_eq k) (k0_off2_inb k) _ row0_12
      refine Upd.stepZero ?_ (by decide) (by decide) (k0_off1_eq k) (k0_off1_inb k) _ row0_11
      exact Upd.zero _ _ _ _ _
  · iexists _
    isplitr; swap
    · iexact H1
    · ipureintro
      refine Upd.stepZero ?_ (by decide) (by decide) (k0_off10_eq k) (k0_off10_inb k) _ row1_15
      refine Upd.stepZero ?_ (by decide) (by decide) (k0_off9_eq k) (k0_off9_inb k) _ row1_14
      refine Upd.stepZero ?_ (by decide) (by decide) (k0_off8_eq k) (k0_off8_inb k) _ row1_13
      refine Upd.stepZero ?_ (by decide) (by decide) (k0_off7_eq k) (k0_off7_inb k) _ row1_12
      refine Upd.stepZero ?_ (by decide) (by decide) (k0_off6_eq k) (k0_off6_inb k) _ row1_11
      exact Upd.zero _ _ _ _ _

/-! ## The three loops over the lanes, by what the scratches hold before each trip -/

/-- Before trip `n` of the first loop: both slots' rows past the last step zero in the columns done. -/
def inv1 (n : ℕ) (_ : Unit) : sProp 𝕄 :=
  iprop((∃ f0 : Buf (Elt F) ((oslot 0).view.loc (tV d L)), ⌜Zeros 0 n f0⌝ ∗ osP d L 0 f0)
    ∗ ∃ f1 : Buf (Elt F) ((oslot 1).view.loc (tV d L)), ⌜Zeros 1 n f1⌝ ∗ osP d L 1 f1)

/-- Before trip `n` of the loop over slot `s`: the inputs in place, the rows of the steps done in the columns before. -/
def invS (s : Fin 2) (fx : Buf (Elt F) ((xslot s).view.loc (tV d L))) (n : ℕ) (_ : Unit) : sProp 𝕄 :=
  iprop(xsP d L s fx ∗ ∃ fo : Buf (Elt F) ((oslot s).view.loc (tV d L)), ⌜Zeros s 128 fo ∧ Steps s n (rdx fx s) fo⌝ ∗ osP d L s fo)

theorem step1 (k : Fin k0_t1_loop.trips) (u : Unit) :
    inv1 (F := F) d L k.val u ⊢ wp frame (wpE (defs₀ (F := F)) 𝒱₀ (tV d L) none) Set.univ
      (k0_t1_body (F := F) L xM (Memref.isWhole_whole _) oM (Memref.isWhole_whole _) xbM (Memref.isWhole_whole _) obM (Memref.isWhole_whole _)
        cc0_scratch2 cc0_scratch3 k u) (inv1 d L (k.val + 1)) := by
  unfold inv1
  iintro ⟨⟨%f0, %h0, H0⟩, ⟨%f1, %h1, H1⟩⟩
  iapply (wp_wand_r frame (wpE (defs₀ (F := F)) 𝒱₀ (tV d L) none) Set.univ)
  isplitl [H0 H1]
  · iapply (trip1 d L k (fun _ => zeroF) f0 f1)
    isplitl [H0] <;> iassumption
  iintro %_ ⟨⟨%g0, %u0, H0⟩, ⟨%g1, %u1, H1⟩⟩
  isplitl [H0]
  · iexists g0; isplitr
    · ipureintro; exact h0.step u0
    · iexact H0
  · iexists g1; isplitr
    · ipureintro; exact h1.step u1
    · iexact H1

theorem step3 (v5 c0 c1 : BitVec 32) (k2 : Fin k0_t2_loop.trips) (fx : Buf (Elt F) ((xslot 0).view.loc (tV d L))) (k : Fin k0_t3_loop.trips) (u : Unit) :
    invS d L 0 fx k.val u ⊢ wp frame (wpE (defs₀ (F := F)) 𝒱₀ (tV d L) none) Set.univ
      (k0_t3_body (F := F) L xM (Memref.isWhole_whole _) oM (Memref.isWhole_whole _) xbM (Memref.isWhole_whole _) obM (Memref.isWhole_whole _)
        cc0_scratch2 cc0_scratch3 k0_pay36 k0_pay37 v5 c0 c1 k2 k u) (invS d L 0 fx (k.val + 1)) := by
  unfold invS
  iintro ⟨Hx, %f, %h, Ho⟩
  iapply (wp_wand_r frame (wpE (defs₀ (F := F)) 𝒱₀ (tV d L) none) Set.univ)
  isplitl [Hx Ho]
  · iapply (trip3 d L v5 c0 c1 k2 k fx f)
    isplitl [Hx] <;> iassumption
  iintro %_ ⟨Hx, %g, %hu, Ho⟩
  isplitl [Hx]; · iexact Hx
  iexists g; isplitr
  · ipureintro; exact ⟨h.1.keep hu, h.2.step hu⟩
  · iexact Ho

theorem step4 (v5 v140 c0 : BitVec 32) (k2 : Fin k0_t2_loop.trips) (fx : Buf (Elt F) ((xslot 1).view.loc (tV d L))) (k : Fin k0_t4_loop.trips) (u : Unit) :
    invS d L 1 fx k.val u ⊢ wp frame (wpE (defs₀ (F := F)) 𝒱₀ (tV d L) none) Set.univ
      (k0_t4_body (F := F) L xM (Memref.isWhole_whole _) oM (Memref.isWhole_whole _) xbM (Memref.isWhole_whole _) obM (Memref.isWhole_whole _)
        cc0_scratch2 cc0_scratch3 k0_pay36 k0_pay37 v5 k2 v140 c0 k u) (invS d L 1 fx (k.val + 1)) := by
  unfold invS
  iintro ⟨Hx, %f, %h, Ho⟩
  iapply (wp_wand_r frame (wpE (defs₀ (F := F)) 𝒱₀ (tV d L) none) Set.univ)
  isplitl [Hx Ho]
  · iapply (trip4 d L v5 v140 c0 k2 k fx f)
    isplitl [Hx] <;> iassumption
  iintro %_ ⟨Hx, %g, %hu, Ho⟩
  isplitl [Hx]; · iexact Hx
  iexists g; isplitr
  · ipureintro; exact ⟨h.1.keep hu, h.2.step hu⟩
  · iexact Ho

end Cert.Spike
-- ==== Proof.Body.lean ====
/- One trip of a worker's loop over chunks, part by part: waiting for a chunk, computing its rows, sending them off and asking
   for the next chunk, with what each copy in flight will hand over. -/
module

public import proofs.«01_k».proof.Proof.VecLoop

@[expose] public section

noncomputable section

namespace Cert.Spike

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords) (X : S4194304.Idx → F .f32)

/-- A chunk of the flat input, at its contents. -/
abbrev xwP (g : Fin 64) : sProp 𝕄 := (xwin L g).view.loc (tV d L) ↦[(xwin L g).view.set]{fullShare} (X : xM.view.ty.Contents (Elt F))
abbrev owP (g : Fin 64) (f : Buf (Elt F) ((owin L g).view.loc (tV d L))) : sProp 𝕄 := (owin L g).view.loc (tV d L) ↦[(owin L g).view.set]{fullShare} f

/-! ## The states a worker's slots and cells pass through -/

/-- Slot `s` of the rows, those past the last step zero. -/
def Blank (s : Fin 2) : sProp 𝕄 :=
  iprop(∃ fo : Buf (Elt F) ((oslot s).view.loc (tV d L)), ⌜Zeros s 128 fo⌝ ∗ osP d L s fo)
/-- Chunk `g` of the array of rows, done. -/
def Done (g : Fin 64) : sProp 𝕄 := owP d L g (GofV X L g)
/-- Slot `s` of the rows, filled for chunk `g`. -/
def Filled (s : Fin 2) (g : Fin 64) : sProp 𝕄 :=
  iprop(∃ fo : Buf (Elt F) ((oslot s).view.loc (tV d L)), ⌜∀ κ j, rdo fo s κ j = lane κ.val (X (ix1 (xpos L g j)))⌝ ∗ osP d L s fo)
/-- Chunk `g` on its way into slot `s`: its arrival hands over the slot with the chunk's elements. -/
def InFl (s : Fin 2) (g : Fin 64) : sProp 𝕄 :=
  iprop(∃ fx : Buf (Elt F) ((xslot s).view.loc (tV d L)), ⌜∀ j, rdx fx s j = X (ix1 (xpos L g j))⌝
    ∗ Transfers.Flight countersEmb (tV d L) (SemLoc.dma (cin s).sem) (default : HIx 1) 65536 iprop(xsP d L s fx ∗ xwP d L X g))
/-- The rows of chunk `g` on their way from slot `s`: their arrival hands over the chunk done, and the slot. -/
def OutFl (s : Fin 2) (g : Fin 64) : sProp 𝕄 :=
  iprop(∃ fo : Buf (Elt F) ((oslot s).view.loc (tV d L)), ⌜Zeros s 128 fo⌝
    ∗ Transfers.Flight countersEmb (tV d L) (SemLoc.dma (cout s).sem) (default : HIx 1) 1048576 iprop(owP d L g (GofV X L g) ∗ osP d L s fo))
abbrev inZ (s : Fin 2) : sProp 𝕄 := semVal (tV d L, SemLoc.dma (cin s).sem) 0
abbrev outZ (s : Fin 2) : sProp 𝕄 := semVal (tV d L, SemLoc.dma (cout s).sem) 0

omit [FloatOps F] in
theorem inZ0 : (semVal (tV d L, SemLoc.dma ⟨0, by decide⟩) 0 : sProp 𝕄) ⊢ inZ d L 0 := .rfl
omit [FloatOps F] in
theorem inZ1 : (semVal (tV d L, SemLoc.dma ⟨1, by decide⟩) 0 : sProp 𝕄) ⊢ inZ d L 1 := .rfl
omit [FloatOps F] in
theorem outZ0 : (semVal (tV d L, SemLoc.dma ⟨2, by decide⟩) 0 : sProp 𝕄) ⊢ outZ d L 0 := .rfl
omit [FloatOps F] in
theorem outZ1 : (semVal (tV d L, SemLoc.dma ⟨3, by decide⟩) 0 : sProp 𝕄) ⊢ outZ d L 1 := .rfl

/-- The slot of inputs `s` and its cell before the trip `k`: chunk `2 k + s` on its way, or nothing when none is left. -/
def InSt (s : Fin 2) (k : ℕ) : sProp 𝕄 :=
  if k < 32 then InFl d L X s (ck (2 * k + s.val)) else iprop((∃ fx : Buf (Elt F) ((xslot s).view.loc (tV d L)), xsP d L s fx) ∗ inZ d L s)
/-- The slot of rows `s` and its cell before the trip `k`: the rows of chunk `2 (k - 1) + s` on their way, but before the first trip. -/
def OutSt (s : Fin 2) (k : ℕ) : sProp 𝕄 :=
  if k = 0 then iprop(Blank d L s ∗ outZ d L s) else OutFl d L X s (ck (2 * k - 2 + s.val))
theorem outSt_zero (s : Fin 2) {k : ℕ} (h : k = 0) : OutSt d L X s k = iprop(Blank d L s ∗ outZ d L s) := if_pos h
theorem outSt_pos (s : Fin 2) {k : ℕ} (h : k ≠ 0) : OutSt d L X s k = OutFl d L X s (ck (2 * k - 2 + s.val)) := if_neg h
/-- The chunk that trip `k` finds done on slot `s`. -/
def Got (s : Fin 2) (k : ℕ) : sProp 𝕄 := if k = 0 then iprop(emp) else Done d L X (ck (2 * k - 2 + s.val))
/-- The worker's debts, as the launch left them, with waits at no index recorded. -/
def Owing (O : CellTallies nD τ sig (HIx 1)) (W : Waits sig (HIx 1)) : sProp 𝕄 :=
  iprop(∃ W', ⌜∀ p ∈ W', p ∈ W ∨ p.2 = none⌝ ∗ owes (tV d L) O W')

variable (O : CellTallies nD τ sig (HIx 1)) (W : Waits sig (HIx 1))

omit [FloatOps F] in
theorem owing_wait {W' : Waits sig (HIx 1)} (h : ∀ p ∈ W', p ∈ W ∨ p.2 = none) (c : SemLoc sig) :
    ∀ p ∈ insert (c, (default : HIx 1)) W', p ∈ W ∨ p.2 = none := fun p hp => by
  rcases Finset.mem_insert.mp hp with hp | hp
  · exact .inr (hp ▸ rfl)
  · exact h p hp

/-- The loop over slot 0: from its chunk's elements, the chunk's rows. -/
theorem scan3 (v5 c0 c1 : BitVec 32) (k : Fin k0_t2_loop.trips) (g : Fin 64) (fx : Buf (Elt F) ((xslot 0).view.loc (tV d L)))
    (hx : ∀ j, rdx fx 0 j = X (ix1 (xpos L g j))) :
    iprop(xsP d L 0 fx ∗ Blank d L 0) ⊢ wp frame (wpE (defs₀ (F := F)) 𝒱₀ (tV d L) none) Set.univ
      (Scf.Loop.for k0_t3_loop k0_t3_ok ⟨⟩ (k0_t3_body (F := F) L xM (Memref.isWhole_whole _) oM (Memref.isWhole_whole _) xbM (Memref.isWhole_whole _)
        obM (Memref.isWhole_whole _) cc0_scratch2 cc0_scratch3 k0_pay36 k0_pay37 v5 c0 c1 k))
      fun _ => iprop(xsP d L 0 fx ∗ Filled d L X 0 g) := by
  unfold Blank
  iintro ⟨Hx, %fo, %hz, Ho⟩
  sl_for (invS d L 0 fx) $$ [Hx Ho]
  case region => exact step3 d L v5 c0 c1 k fx
  isplitl [Hx Ho]
  · unfold invS
    isplitl [Hx]; · iexact Hx
    iexists fo; isplitr
    · ipureintro; exact ⟨hz, Steps.zero _ _ _⟩
    · iexact Ho
  iintro %_ HI
  unfold invS
  icases HI with ⟨Hx, %f, %hf, Ho⟩
  isplitl [Hx]; · iexact Hx
  unfold Filled
  iexists f; isplitr
  · ipureintro; exact fun κ j => (rows_of (hf.1) (trips3_eq ▸ hf.2) κ j).trans (congrArg _ (hx j))
  · iexact Ho

/-- The loop over slot 1. -/
theorem scan4 (v5 v140 c0 : BitVec 32) (k : Fin k0_t2_loop.trips) (g : Fin 64) (fx : Buf (Elt F) ((xslot 1).view.loc (tV d L)))
    (hx : ∀ j, rdx fx 1 j = X (ix1 (xpos L g j))) :
    iprop(xsP d L 1 fx ∗ Blank d L 1) ⊢ wp frame (wpE (defs₀ (F := F)) 𝒱₀ (tV d L) none) Set.univ
      (Scf.Loop.for k0_t4_loop k0_t4_ok ⟨⟩ (k0_t4_body (F := F) L xM (Memref.isWhole_whole _) oM (Memref.isWhole_whole _) xbM (Memref.isWhole_whole _)
        obM (Memref.isWhole_whole _) cc0_scratch2 cc0_scratch3 k0_pay36 k0_pay37 v5 k v140 c0))
      fun _ => iprop(xsP d L 1 fx ∗ Filled d L X 1 g) := by
  unfold Blank
  iintro ⟨Hx, %fo, %hz, Ho⟩
  sl_for (invS d L 1 fx) $$ [Hx Ho]
  case region => exact step4 d L v5 v140 c0 k fx
  isplitl [Hx Ho]
  · unfold invS
    isplitl [Hx]; · iexact Hx
    iexists fo; isplitr
    · ipureintro; exact ⟨hz, Steps.zero _ _ _⟩
    · iexact Ho
  iintro %_ HI
  unfold invS
  icases HI with ⟨Hx, %f, %hf, Ho⟩
  isplitl [Hx]; · iexact Hx
  unfold Filled
  iexists f; isplitr
  · ipureintro; exact fun κ j => (rows_of (hf.1) (trips4_eq ▸ hf.2) κ j).trans (congrArg _ (hx j))
  · iexact Ho

theorem blank_intro (s : Fin 2) (fo : Buf (Elt F) ((oslot s).view.loc (tV d L))) (hz : Zeros s 128 fo) :
    (osP d L s fo : sProp 𝕄) ⊢ Blank d L s := by
  unfold Blank
  iintro H
  iexists fo
  isplitr
  · ipureintro; exact hz
  · iexact H

theorem seg8 (k : Fin k0_t2_loop.trips) (v5 c0 c1 : BitVec 32) :
    iprop(Transfers.MayWaits (tV d L) (default : HIx 1) O ∗ InFl d L X 0 (ck (2 * k.val)) ∗ OutSt d L X 0 k.val ∗ Owing d L O W)
      ⊢ wp frame (wpE (defs₀ (F := F)) 𝒱₀ (tV d L) none) Set.univ
          (k0_part8 L xM (Memref.isWhole_whole _) oM (Memref.isWhole_whole _) xbM (Memref.isWhole_whole _) obM (Memref.isWhole_whole _)
            cc0_scratch2 cc0_scratch3 k0_pay36 k0_pay37 v5 c0 c1 k)
          fun _ => iprop(Filled d L X 0 (ck (2 * k.val)) ∗ (∃ fx : Buf (Elt F) ((xslot 0).view.loc (tV d L)), xsP d L 0 fx) ∗ inZ d L 0 ∗ outZ d L 0
            ∗ Got d L X 0 k.val ∗ Owing d L O W) := by
  have hk : k.val < 32 := Nat.lt_of_lt_of_eq k.isLt trips2_eq
  by_cases h0 : k.val = 0
  · have h1 : k0_cond1 k ≠ 1#1 := fun h => (cond1_iff k).mp h h0
    unfold InFl OutSt Owing
    rw [if_pos h0]
    iintro ⟨#Hmw, ⟨%fx, %hx, Hi⟩, ⟨HB, Ho⟩, %W', %hW', HO⟩
    sl_unfold [k0_part8]
    sl_exec
    iapply (exec_cut frame (wpE (defs₀ (F := F)) 𝒱₀ (tV d L) none) Set.univ (scan3 d L X v5 c0 _ k (ck (2 * k.val)) fx hx)) $$ [Hi_dst HB]
    · isplitl [Hi_dst] <;> iassumption
    iintro %_ ⟨Hx, Hf⟩
    sl_exec
    sl_step
    isplitl [Hf]; · iexact Hf
    isplitl [Hx]; · iexists fx; iexact Hx
    isplitl [Hi]; · iapply (inZ0 d L) $$ Hi
    isplitl [Ho]; · iexact Ho
    isplitr; · unfold Got; rw [if_pos h0]; iempintro
    iexists _
    isplitr; swap; · iexact HO
    ipureintro; exact owing_wait W hW' _
  · have h1 : k0_cond1 k = 1#1 := (cond1_iff k).mpr h0
    unfold InFl OutSt OutFl Owing
    rw [if_neg h0]
    iintro ⟨#Hmw, ⟨%fx, %hx, Hi⟩, ⟨%fo, %hz, Ho⟩, %W', %hW', HO⟩
    sl_unfold [k0_part8]
    sl_exec
    ihave HB := (blank_intro d L 0 fo hz) $$ Ho_src
    iapply (exec_cut frame (wpE (defs₀ (F := F)) 𝒱₀ (tV d L) none) Set.univ (scan3 d L X v5 c0 _ k (ck (2 * k.val)) fx hx)) $$ [Hi_dst HB]
    · isplitl [Hi_dst] <;> iassumption
    iintro %_ ⟨Hx, Hf⟩
    sl_exec
    sl_step
    isplitl [Hf]; · iexact Hf
    isplitl [Hx]; · iexists fx; iexact Hx
    isplitl [Hi]; · iapply (inZ0 d L) $$ Hi
    isplitl [Ho]; · iapply (outZ0 d L) $$ Ho
    isplitl [Ho_dst]; · unfold Got Done; rw [if_neg h0]; iexact Ho_dst
    iexists _
    isplitr; swap; · iexact HO
    ipureintro; exact owing_wait W (owing_wait W hW' _) _

/-- The slot of rows, filled, and its copy's arrival: the chunk done. -/
theorem outFl_intro (s : Fin 2) (g : Fin 64) (c : SemLoc sig) (hc : c = SemLoc.dma (cout s).sem)
    (f : Buf (Elt F) ((owin L g).view.loc (tV d L))) (fo : Buf (Elt F) ((oslot s).view.loc (tV d L)))
    (hf : ∀ κ j, rdo fo s κ j = lane κ.val (X (ix1 (xpos L g j)))) (w : S16x2048.Idx → F .f32) (hw : w = (oslot s).view.read (Elt F) fo) :
    (Transfers.Flight countersEmb (tV d L) c (default : HIx 1) 1048576
      iprop(owP d L g ((owin L g).view.writes (Elt F) f [⟨Rect.whole S16x2048, w⟩]) ∗ osP d L s fo) : sProp 𝕄) ⊢ OutFl d L X s g := by
  have hz : Zeros s 128 fo := fun κ j hκ _ => (hf κ j).trans (lane_late κ.val (by omega) _)
  have he : (owP d L g ((owin L g).view.writes (Elt F) f [⟨Rect.whole S16x2048, w⟩]) : sProp 𝕄) = owP d L g (GofV X L g) :=
    pointsTo_congr (owin_done L g X f w fun κ j => by rw [hw]; exact (oslot_read s fo κ j).trans (hf κ j))
  subst hc
  unfold OutFl
  rw [he]
  iintro H
  iexists fo
  isplitr
  · ipureintro; exact hz
  · iexact H

/-- A chunk's copy into a slot of inputs, issued: the slot arrives with the chunk's elements. -/
theorem inFl_intro (s : Fin 2) (g : Fin 64) (c : SemLoc sig) (hc : c = SemLoc.dma (cin s).sem)
    (fx : Buf (Elt F) ((xslot s).view.loc (tV d L))) (w : S2048.Idx → F .f32)
    (hw : w = (xwin L g).view.read (Elt F) (X : xM.view.ty.Contents (Elt F))) :
    (Transfers.Flight countersEmb (tV d L) c (default : HIx 1) 65536
      iprop(xsP d L s ((xslot s).view.writes (Elt F) fx [⟨Rect.whole S2048, w⟩]) ∗ xwP d L X g) : sProp 𝕄) ⊢ InFl d L X s g := by
  subst hc
  unfold InFl
  iintro H
  iexists ((xslot s).view.writes (Elt F) fx [⟨Rect.whole S2048, w⟩])
  isplitr
  · ipureintro; exact fun j => (rdx_landed s fx w j).trans (by rw [hw]; exact xwin_read L g X j)
  · iexact H

omit [FloatOps F] in
theorem inSt_next (s : Fin 2) {k : ℕ} (h : k < 31) {n : ℕ} (hn : n = 2 * k + 2 + s.val) : InFl d L X s (ck n) ⊢ InSt d L X s (k + 1) := by
  unfold InSt
  rw [if_pos (by omega), hn, show 2 * (k + 1) + s.val = 2 * k + 2 + s.val by omega]
omit [FloatOps F] in
theorem inSt_last (s : Fin 2) {k : ℕ} (h : ¬ k < 31) :
    iprop((∃ fx : Buf (Elt F) ((xslot s).view.loc (tV d L)), xsP d L s fx) ∗ inZ d L s) ⊢ InSt d L X s (k + 1) := by
  unfold InSt
  rw [if_neg (by omega)]
theorem outSt_next (s : Fin 2) {k n : ℕ} (hn : n = 2 * k + s.val) : OutFl d L X s (ck n) ⊢ OutSt d L X s (k + 1) := by
  unfold OutSt
  rw [if_neg (by omega), hn, show 2 * (k + 1) - 2 + s.val = 2 * k + s.val by omega]

theorem seg9 (k : Fin k0_t2_loop.trips) (v5 a1 a2 a3 a4 : BitVec 32) (a5 : BitVec 1) (a6 : BitVec 32)
    (f : Buf (Elt F) ((owin L (ck (2 * k.val))).view.loc (tV d L))) :
    iprop(Transfers.MayWaits (tV d L) (default : HIx 1) O ∗ Filled d L X 0 (ck (2 * k.val)) ∗ owP d L (ck (2 * k.val)) f ∗ outZ d L 0
        ∗ (∃ fx : Buf (Elt F) ((xslot 0).view.loc (tV d L)), xsP d L 0 fx) ∗ inZ d L 0
        ∗ (if k.val < 31 then xwP d L X (ck (2 * k.val + 2)) else iprop(emp)) ∗ InFl d L X 1 (ck (2 * k.val + 1)) ∗ OutSt d L X 1 k.val ∗ Owing d L O W)
      ⊢ wp frame (wpE (defs₀ (F := F)) 𝒱₀ (tV d L) none) Set.univ
          (k0_part9 (F := F) L xM (Memref.isWhole_whole _) oM (Memref.isWhole_whole _) xbM (Memref.isWhole_whole _) obM (Memref.isWhole_whole _)
            cc0_scratch2 cc0_scratch3 v5 k a1 a2 a3 a4 a5 a6)
          fun _ => iprop(OutSt d L X 0 (k.val + 1) ∗ InSt d L X 0 (k.val + 1)
            ∗ (∃ fx : Buf (Elt F) ((xslot 1).view.loc (tV d L)), ⌜∀ j, rdx fx 1 j = X (ix1 (xpos L (ck (2 * k.val + 1)) j))⌝ ∗ xsP d L 1 fx) ∗ inZ d L 1
            ∗ Blank d L 1 ∗ outZ d L 1 ∗ Got d L X 1 k.val ∗ Owing d L O W) := by
  have hk : k.val < 32 := Nat.lt_of_lt_of_eq k.isLt trips2_eq
  by_cases h0 : k.val = 0
  · have h3 : k0_cond3 k ≠ 1#1 := fun h => (cond3_iff k).mp h h0
    have h31 : k.val ≠ 31 := by omega
    have h2 : k0_cond2 k = 1#1 := (cond2_iff k).mpr h31
    rw [outSt_zero _ _ _ _ h0, if_pos (show k.val < 31 by omega)]
    unfold InFl Owing Filled
    iintro ⟨#Hmw, ⟨%fo, %hf, Hs⟩, Hd, Ho, ⟨%fx, Hx⟩, Hi, Hw, ⟨%fx1, %hx1, Hi1⟩, ⟨HB, Ho1⟩, %W', %hW', HO⟩
    sl_unfold [k0_part9]
    sl_exec
    sl_step
    isplitl [Ho]
    · iapply (outSt_next d L X 0 (n := 2 * k.val) rfl)
      iapply (outFl_intro d L X 0 (ck (2 * k.val)) (SemLoc.dma ⟨2, _⟩) rfl f fo hf (seg9.sl.dma0 d L fo) rfl) $$ Ho
    isplitl [Hi]
    · iapply (inSt_next d L X 0 (show k.val < 31 by omega) (n := 2 * k.val + 2) rfl)
      iapply (inFl_intro d L X 0 (ck (2 * k.val + 2)) (SemLoc.dma ⟨0, _⟩) rfl fx (seg9.sl.dma0_1 L X k) rfl) $$ Hi
    isplitl [Hi1_dst]
    · iexists fx1
      isplitr
      · ipureintro; exact hx1
      · iexact Hi1_dst
    isplitl [Hi1]; · iapply (inZ1 d L) $$ Hi1
    isplitl [HB]; · iexact HB
    isplitl [Ho1]; · iexact Ho1
    isplitr; · unfold Got; rw [if_pos h0]; iempintro
    iexists _
    isplitr; swap; · iexact HO
    ipureintro; exact owing_wait W hW' _
  have h3 : k0_cond3 k = 1#1 := (cond3_iff k).mpr h0
  have e1 : 2 * k.val - 2 + (1 : Fin 2).val = 2 * k.val - 1 := by
    show 2 * k.val - 2 + 1 = 2 * k.val - 1
    omega
  rw [outSt_pos _ _ _ _ h0, e1]
  unfold InFl OutFl Owing Filled
  by_cases h31 : k.val = 31
  · have h2 : k0_cond2 k ≠ 1#1 := fun h => (cond2_iff k).mp h h31
    rw [if_neg (show ¬ k.val < 31 by omega)]
    iintro ⟨#Hmw, ⟨%fo, %hf, Hs⟩, Hd, Ho, ⟨%fx, Hx⟩, Hi, -, ⟨%fx1, %hx1, Hi1⟩, ⟨%fz, %hz, Ho1⟩, %W', %hW', HO⟩
    sl_unfold [k0_part9]
    sl_exec
    sl_step
    isplitl [Ho]
    · iapply (outSt_next d L X 0 (n := 2 * k.val) rfl)
      iapply (outFl_intro d L X 0 (ck (2 * k.val)) (SemLoc.dma ⟨2, _⟩) rfl f fo hf (seg9.sl.dma0_2 d L fo) rfl) $$ Ho
    isplitl [Hi Hx]
    · iapply (inSt_last d L X 0 (show ¬ k.val < 31 by omega))
      isplitl [Hx]; · iexists fx; iexact Hx
      iexact Hi
    isplitl [Hi1_dst]
    · iexists fx1
      isplitr
      · ipureintro; exact hx1
      · iexact Hi1_dst
    isplitl [Hi1]; · iapply (inZ1 d L) $$ Hi1
    isplitl [Ho1_src]; · iapply (blank_intro d L 1 fz hz) $$ Ho1_src
    isplitl [Ho1]; · iapply (outZ1 d L) $$ Ho1
    isplitl [Ho1_dst]; · unfold Got Done; rw [if_neg h0, e1]; iexact Ho1_dst
    iexists _
    isplitr; swap; · iexact HO
    ipureintro; exact owing_wait W (owing_wait W hW' _) _
  · have h2 : k0_cond2 k = 1#1 := (cond2_iff k).mpr h31
    rw [if_pos (show k.val < 31 by omega)]
    iintro ⟨#Hmw, ⟨%fo, %hf, Hs⟩, Hd, Ho, ⟨%fx, Hx⟩, Hi, Hw, ⟨%fx1, %hx1, Hi1⟩, ⟨%fz, %hz, Ho1⟩, %W', %hW', HO⟩
    sl_unfold [k0_part9]
    sl_exec
    sl_step
    isplitl [Ho]
    · iapply (outSt_next d L X 0 (n := 2 * k.val) rfl)
      iapply (outFl_intro d L X 0 (ck (2 * k.val)) (SemLoc.dma ⟨2, _⟩) rfl f fo hf (seg9.sl.dma0_3 d L fo) rfl) $$ Ho
    isplitl [Hi]
    · iapply (inSt_next d L X 0 (show k.val < 31 by omega) (n := 2 * k.val + 2) rfl)
      iapply (inFl_intro d L X 0 (ck (2 * k.val + 2)) (SemLoc.dma ⟨0, _⟩) rfl fx (seg9.sl.dma0_4 L X k) rfl) $$ Hi
    isplitl [Hi1_dst]
    · iexists fx1
      isplitr
      · ipureintro; exact hx1
      · iexact Hi1_dst
    isplitl [Hi1]; · iapply (inZ1 d L) $$ Hi1
    isplitl [Ho1_src]; · iapply (blank_intro d L 1 fz hz) $$ Ho1_src
    isplitl [Ho1]; · iapply (outZ1 d L) $$ Ho1
    isplitl [Ho1_dst]; · unfold Got Done; rw [if_neg h0, e1]; iexact Ho1_dst
    iexists _
    isplitr; swap; · iexact HO
    ipureintro; exact owing_wait W (owing_wait W hW' _) _

theorem seg10 (k : Fin k0_t2_loop.trips) (v5 v140 c0 : BitVec 32)
    (f : Buf (Elt F) ((owin L (ck (2 * k.val + 1))).view.loc (tV d L))) :
    iprop((∃ fx : Buf (Elt F) ((xslot 1).view.loc (tV d L)), ⌜∀ j, rdx fx 1 j = X (ix1 (xpos L (ck (2 * k.val + 1)) j))⌝ ∗ xsP d L 1 fx)
        ∗ Blank d L 1 ∗ outZ d L 1 ∗ owP d L (ck (2 * k.val + 1)) f ∗ Owing d L O W)
      ⊢ wp frame (wpE (defs₀ (F := F)) 𝒱₀ (tV d L) none) Set.univ
          (k0_part10 (F := F) L xM (Memref.isWhole_whole _) oM (Memref.isWhole_whole _) xbM (Memref.isWhole_whole _) obM (Memref.isWhole_whole _)
            cc0_scratch2 cc0_scratch3 k0_pay36 k0_pay37 v5 k v140 c0)
          fun _ => iprop((∃ fx : Buf (Elt F) ((xslot 1).view.loc (tV d L)), xsP d L 1 fx) ∗ OutSt d L X 1 (k.val + 1) ∗ Owing d L O W) := by
  unfold Owing
  iintro ⟨⟨%fx, %hx, Hx⟩, HB, Ho, Hd, %W', %hW', HO⟩
  sl_unfold [k0_part10]
  sl_exec
  iapply (exec_cut frame (wpE (defs₀ (F := F)) 𝒱₀ (tV d L) none) Set.univ (scan4 d L X v5 v140 c0 k (ck (2 * k.val + 1)) fx hx)) $$ [Hx HB]
  · isplitl [Hx] <;> iassumption
  unfold Filled
  iintro %_ ⟨Hx, %fo, %hf, Hs⟩
  sl_exec
  sl_step
  isplitl [Hx]; · iexists fx; iexact Hx
  isplitl [Ho]
  · iapply (outSt_next d L X 1 (n := 2 * k.val + 1) rfl)
    iapply (outFl_intro d L X 1 (ck (2 * k.val + 1)) (SemLoc.dma ⟨3, _⟩) rfl f fo hf (seg10.sl.dma0 d L fo) rfl) $$ Ho
  iexists W'
  isplitr; swap; · iexact HO
  ipureintro; exact hW'
-- ==== Proof.Trip.lean ====
/- The whole trip: the invariant over pairs of chunks, and that one trip keeps it. -/
module

public import proofs.«01_k».proof.Proof.Body

@[expose] public section

noncomputable section

namespace Cert.Spike

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords) (X : S4194304.Idx → F .f32)

/-! ## The chunks not yet taken, and those done -/

/-- The chunks of the input from `n` on. -/
def Xs (n : ℕ) : sProp 𝕄 := bigSep (Finset.univ.filter fun g : Fin 64 => n ≤ g.val) fun g => xwP d L X g
/-- The chunks of the array of rows from `n` on, at any contents. -/
def Os (n : ℕ) : sProp 𝕄 :=
  bigSep (Finset.univ.filter fun g : Fin 64 => n ≤ g.val) fun g => iprop(∃ f : Buf (Elt F) ((owin L g).view.loc (tV d L)), owP d L g f)
/-- The chunks of the array of rows before `n`, done. -/
def Dn (n : ℕ) : sProp 𝕄 := bigSep (Finset.univ.filter fun g : Fin 64 => g.val < n) fun g => Done d L X g

theorem from_step {n : ℕ} (hn : n < 64) :
    (Finset.univ.filter fun g : Fin 64 => n ≤ g.val) = insert (ck n) (Finset.univ.filter fun g : Fin 64 => n + 1 ≤ g.val) := by
  ext g
  rw [Finset.mem_insert, Finset.mem_filter, Finset.mem_filter, Fin.ext_iff, ck_val hn]
  simp only [Finset.mem_univ, _root_.true_and]
  omega
theorem below_step {n : ℕ} (hn : n < 64) :
    (Finset.univ.filter fun g : Fin 64 => g.val < n + 1) = insert (ck n) (Finset.univ.filter fun g : Fin 64 => g.val < n) := by
  ext g
  rw [Finset.mem_insert, Finset.mem_filter, Finset.mem_filter, Fin.ext_iff, ck_val hn]
  simp only [Finset.mem_univ, _root_.true_and]
  omega

omit [FloatOps F] in
theorem Xs_step {n : ℕ} (hn : n < 64) : Xs d L X n = iprop(xwP d L X (ck n) ∗ Xs d L X (n + 1)) := by
  unfold Xs
  rw [from_step hn, SparseCore.bigSep_insert' (by rw [Finset.mem_filter, ck_val hn]; omega)]
omit [FloatOps F] in
theorem Os_step {n : ℕ} (hn : n < 64) :
    Os (F := F) d L n = iprop((∃ f : Buf (Elt F) ((owin L (ck n)).view.loc (tV d L)), owP d L (ck n) f) ∗ Os (F := F) d L (n + 1)) := by
  unfold Os
  rw [from_step hn, SparseCore.bigSep_insert' (by rw [Finset.mem_filter, ck_val hn]; omega)]
theorem Dn_step {n : ℕ} (hn : n < 64) : Dn d L X (n + 1) = iprop(Done d L X (ck n) ∗ Dn d L X n) := by
  unfold Dn
  rw [below_step hn, SparseCore.bigSep_insert' (by rw [Finset.mem_filter, ck_val hn]; omega)]

omit [FloatOps F] in
theorem Xs_next {k : ℕ} : Xs d L X (2 * k + 2) ⊢ iprop((if k < 31 then xwP d L X (ck (2 * k + 2)) else iprop(emp))
    ∗ (if k < 31 then xwP d L X (ck (2 * k + 3)) else iprop(emp)) ∗ Xs d L X (2 * (k + 1) + 2)) := by
  by_cases h : k < 31
  · rw [if_pos h, if_pos h, Xs_step d L X (n := 2 * k + 2) (by omega), Xs_step d L X (n := 2 * k + 2 + 1) (by omega)]
    exact .rfl
  · rw [if_neg h, if_neg h]
    have e : Xs d L X (2 * k + 2) = Xs d L X (2 * (k + 1) + 2) := by
      unfold Xs
      congr 1
      ext g
      simp only [Finset.mem_filter, Finset.mem_univ, _root_.true_and]
      omega
    rw [e]
    iintro H
    isplitr; · iempintro
    isplitr; · iempintro
    iexact H

theorem Dn_got {k : ℕ} (hk : k < 32) : iprop(Got d L X 0 k ∗ Got d L X 1 k ∗ Dn d L X (2 * k - 2)) ⊢ Dn d L X (2 * (k + 1) - 2) := by
  unfold Got
  rcases k with _ | k
  · rw [if_pos rfl, if_pos rfl]
    iintro ⟨-, -, H⟩
    iexact H
  · rw [if_neg (Nat.succ_ne_zero k), if_neg (Nat.succ_ne_zero k), show 2 * (k + 1 + 1) - 2 = 2 * k + 1 + 1 by omega, Dn_step d L X (n := 2 * k + 1) (by omega),
      Dn_step d L X (n := 2 * k) (by omega), show 2 * (k + 1) - 2 = 2 * k by omega]
    iintro ⟨H0, H1, H⟩
    isplitl [H1]; · iexact H1
    isplitl [H0]; · iexact H0
    iexact H

/-! ## A trip over a pair of chunks -/

variable (O : CellTallies nD τ sig (HIx 1)) (W : Waits sig (HIx 1))

/-- Before trip `k`: its two chunks are on their way in, the rows of the trip before it on their way out. -/
def pairInv (k : ℕ) (_ : Unit) : sProp 𝕄 :=
  iprop(Transfers.MayWaits (tV d L) (default : HIx 1) O ∗ InSt d L X 0 k ∗ InSt d L X 1 k ∗ OutSt d L X 0 k ∗ OutSt d L X 1 k
    ∗ Xs d L X (2 * k + 2) ∗ Os (F := F) d L (2 * k) ∗ Dn d L X (2 * k - 2) ∗ Owing d L O W)

omit [FloatOps F] in
theorem inSt_at (s : Fin 2) {k n : ℕ} (h : k < 32) (hn : n = 2 * k + s.val) : InSt d L X s k ⊢ InFl d L X s (ck n) := by
  unfold InSt
  rw [if_pos h, hn]

theorem pairStep (v5 : BitVec 32) (k : Fin k0_t2_loop.trips) (u : Unit) :
    pairInv d L X O W k.val u ⊢ wp frame (wpE (defs₀ (F := F)) 𝒱₀ (tV d L) none) Set.univ
      (k0_t2_body (F := F) L xM (Memref.isWhole_whole _) oM (Memref.isWhole_whole _) xbM (Memref.isWhole_whole _) obM (Memref.isWhole_whole _)
        cc0_scratch2 cc0_scratch3 v5 k u) (pairInv d L X O W (k.val + 1)) := by
  have hk : k.val < 32 := Nat.lt_of_lt_of_eq k.isLt trips2_eq
  unfold pairInv
  rw [Os_step d L (n := 2 * k.val) (by omega), Os_step d L (n := 2 * k.val + 1) (by omega)]
  iintro ⟨#Hmw, Hi0, Hi1, Ho0, Ho1, HX, ⟨⟨%f0, Hd0⟩, ⟨%f1, Hd1⟩, HOs⟩, HD, HO⟩
  ihave Hi0 := (inSt_at d L X 0 hk (n := 2 * k.val) rfl) $$ Hi0
  ihave Hi1 := (inSt_at d L X 1 hk (n := 2 * k.val + 1) rfl) $$ Hi1
  ihave HX := (Xs_next d L X (k := k.val)) $$ HX
  icases HX with ⟨Hn0, Hn1, HX⟩
  sl_unfold [k0_t2_body]
  iapply (exec_cut frame (wpE (defs₀ (F := F)) 𝒱₀ (tV d L) none) Set.univ (seg8 d L X O W k v5 0#32 1#32)) $$ [Hi0 Ho0 HO]
  · isplitr; · iexact Hmw
    isplitl [Hi0]; · iexact Hi0
    isplitl [Ho0] <;> iassumption
  iintro %r ⟨Hf, Hx0, Hz0, Hoz0, Hg0, HO⟩
  iapply (exec_cut frame (wpE (defs₀ (F := F)) 𝒱₀ (tV d L) none) Set.univ (seg9 d L X O W k v5 _ _ _ _ _ _ f0)) $$ [Hf Hd0 Hoz0 Hx0 Hz0 Hn0 Hi1 Ho1 HO]
  · isplitr; · iexact Hmw
    isplitl [Hf]; · iexact Hf
    isplitl [Hd0]; · iexact Hd0
    isplitl [Hoz0]; · iexact Hoz0
    isplitl [Hx0]; · iexact Hx0
    isplitl [Hz0]; · iexact Hz0
    isplitl [Hn0]; · iexact Hn0
    isplitl [Hi1]; · iexact Hi1
    isplitl [Ho1] <;> iassumption
  iintro %r1 ⟨Ho0, Hi0, Hx1, Hz1, HB, Hoz1, Hg1, HO⟩
  iapply (exec_cut frame (wpE (defs₀ (F := F)) 𝒱₀ (tV d L) none) Set.univ (seg10 d L X O W k v5 _ _ f1)) $$ [Hx1 HB Hoz1 Hd1 HO]
  · isplitl [Hx1]; · iexact Hx1
    isplitl [HB]; · iexact HB
    isplitl [Hoz1]; · iexact Hoz1
    isplitl [Hd1] <;> iassumption
  iintro %_ ⟨⟨%fx, Hx1⟩, Ho1, HO⟩
  ihave HD := (Dn_got d L X hk) $$ [Hg0 Hg1 HD]
  · isplitl [Hg0]; · iexact Hg0
    isplitl [Hg1] <;> iassumption
  by_cases h31 : k.val = 31
  · have h4 : k0_cond4 k ≠ 1#1 := fun h => (cond4_iff k).mp h h31
    sl_exec
    sl_step
    ihave Hi1 := (inSt_last d L X 1 (show ¬ k.val < 31 by omega)) $$ [Hx1 Hz1]
    · isplitl [Hx1]; · iexists fx; iexact Hx1
      iexact Hz1
    isplitr; · iexact Hmw
    isplitl [Hi0]; · iexact Hi0
    isplitl [Hi1]; · iexact Hi1
    isplitl [Ho0]; · iexact Ho0
    isplitl [Ho1]; · iexact Ho1
    isplitl [HX]; · iexact HX
    isplitl [HOs]; · iexact HOs
    isplitl [HD] <;> iassumption
  · have h4 : k0_cond4 k = 1#1 := (cond4_iff k).mpr h31
    ihave Hn1 := (Entails.of_eq (if_pos (show k.val < 31 by omega))) $$ Hn1
    sl_exec
    sl_step
    ihave Hi1 := ((inFl_intro d L X 1 (ck (2 * k.val + 3)) (SemLoc.dma ⟨1, _⟩) rfl fx (pairStep.sl.dma0 L X k) rfl).trans
      (inSt_next d L X 1 (show k.val < 31 by omega) (n := 2 * k.val + 3) rfl)) $$ Hz1
    isplitr; · iexact Hmw
    isplitl [Hi0]; · iexact Hi0
    isplitl [Hi1]; · iexact Hi1
    isplitl [Ho0]; · iexact Ho0
    isplitl [Ho1]; · iexact Ho1
    isplitl [HX]; · iexact HX
    isplitl [HOs]; · iexact HOs
    isplitl [HD] <;> iassumption
-- ==== Proof.Parts.lean ====
/- Which elements a window has: the workers' chunks are disjoint and make up the two arrays, the two slots make up a buffer. -/
module

public import proofs.«01_k».proof.Proof.Trip

@[expose] public section

noncomputable section

namespace Cert.Spike

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-! ## Which elements a window or a slot has -/

theorem xwin_set (i : grid0.Coords) (g : Fin 64) : (xwin i g).view.set = (Rect.unit (s := S4194304) (xOff i g) S2048.size (xOff_inb i g)).set :=
  View.set_slice_whole _ _
theorem owin_set (i : grid0.Coords) (g : Fin 64) : (owin i g).view.set = (Rect.unit (s := S32x2097152) (oOff i g) S16x2048.size (oOff_inb i g)).set :=
  View.set_slice_whole _ _
theorem xslot_set (s : Fin 2) : (xslot s).view.set = (Rect.unit (s := S2x2048) (xsOff s) S1x2048.size (xsOff_inb s)).set :=
  (View.set_reshape _ _).trans (View.set_slice_whole _ _)
theorem oslot_set (s : Fin 2) : (oslot s).view.set = (Rect.unit (s := S2x16x2048) (osOff s) S1x16x2048.size (osOff_inb s)).set :=
  (View.set_reshape _ _).trans (View.set_slice_whole _ _)

theorem mem_xwin (i : grid0.Coords) (g : Fin 64) (z : S4194304.Idx) :
    z ∈ (xwin i g).view.set ↔ (z 0).val / 2048 = 128 * (i 1).val + 64 * (i 0).val + g.val := by
  have h : z ∈ (Rect.unit (s := S4194304) (xOff i g) S2048.size (xOff_inb i g)).set
      ↔ (z 0).val / 2048 = 128 * (i 1).val + 64 * (i 0).val + g.val := by
    rw [Rect.mem_set_unit]
    constructor
    · intro h
      have h0 := h 0
      simp [xOff] at h0
      omega
    · intro h a
      match a with
      | 0 =>
        simp [xOff]
        omega
  rw [xwin_set i g]
  exact h

theorem mem_owin (i : grid0.Coords) (g : Fin 64) (z : S32x2097152.Idx) :
    z ∈ (owin i g).view.set ↔ (z 0).val / 16 * 1024 + (z 1).val / 2048 = 128 * (i 1).val + 64 * (i 0).val + g.val := by
  have h : z ∈ (Rect.unit (s := S32x2097152) (oOff i g) S16x2048.size (oOff_inb i g)).set
      ↔ (z 0).val / 16 * 1024 + (z 1).val / 2048 = 128 * (i 1).val + 64 * (i 0).val + g.val := by
    have hc : (i 0).val < 2 := (i 0).isLt
    have hz : (z 1).val < 2097152 := (z 1).isLt
    rw [Rect.mem_set_unit]
    constructor
    · intro h
      have h0 := h 0
      have h1 := h 1
      simp [oOff] at h0 h1
      omega
    · intro h a
      match a with
      | 0 =>
        simp [oOff]
        omega
      | 1 =>
        simp [oOff]
        omega
  rw [owin_set i g]
  exact h

theorem mem_xslot (s : Fin 2) (z : S2x2048.Idx) : z ∈ (xslot s).view.set ↔ (z 0).val = s.val := by
  have h : z ∈ (Rect.unit (s := S2x2048) (xsOff s) S1x2048.size (xsOff_inb s)).set ↔ (z 0).val = s.val := by
    have hz : (z 1).val < 2048 := (z 1).isLt
    rw [Rect.mem_set_unit]
    constructor
    · intro h
      have h0 := h 0
      simp [xsOff] at h0
      omega
    · intro h a
      match a with
      | 0 =>
        simp [xsOff]
        omega
      | 1 =>
        simp [xsOff]
        omega
  rw [xslot_set s]
  exact h

theorem mem_oslot (s : Fin 2) (z : S2x16x2048.Idx) : z ∈ (oslot s).view.set ↔ (z 0).val = s.val := by
  have h : z ∈ (Rect.unit (s := S2x16x2048) (osOff s) S1x16x2048.size (osOff_inb s)).set ↔ (z 0).val = s.val := by
    have hz : (z 1).val < 16 := (z 1).isLt
    have hz2 : (z 2).val < 2048 := (z 2).isLt
    rw [Rect.mem_set_unit]
    constructor
    · intro h
      have h0 := h 0
      simp [osOff] at h0
      omega
    · intro h a
      match a with
      | 0 =>
        simp [osOff]
        omega
      | 1 =>
        simp [osOff]
        omega
      | 2 =>
        simp [osOff]
        omega
  rw [oslot_set s]
  exact h

/-! ## The windows of the workers, and the two slots, make up their arrays -/

def coordsV (c : Fin (grid0.bound 0)) (s : Fin (grid0.bound 1)) : grid0.Coords :=
  fun | 0 => c | 1 => s | ⟨_ + 2, h⟩ => absurd h (Nat.not_lt.2 (Nat.le_add_left _ _))

/-- A core, a subcore, a chunk. -/
abbrev Part : Type := Fin (grid0.bound 0) × Fin (grid0.bound 1) × Fin 64
/-- A chunk's number among all. -/
def num (p : Part) : ℕ := 128 * p.2.1.val + 64 * p.1.val + p.2.2.val
theorem num_inj {p q : Part} (h : num p = num q) : p = q := by
  obtain ⟨c, s, g⟩ := p
  obtain ⟨c', s', g'⟩ := q
  unfold num at h
  have h1 : c.val < 2 := c.isLt
  have h2 : c'.val < 2 := c'.isLt
  have h3 := g.isLt
  have h4 := g'.isLt
  dsimp only at h
  exact Prod.ext (Fin.ext (by dsimp only; omega)) (Prod.ext (Fin.ext (by dsimp only; omega)) (Fin.ext (by dsimp only; omega)))
theorem num_surj {n : ℕ} (h : n < 2048) : ∃ p : Part, n = num p :=
  ⟨(⟨n / 64 % 2, Nat.mod_lt _ (by decide)⟩, ⟨n / 128, show n / 128 < 16 by omega⟩, ⟨n % 64, Nat.mod_lt _ (by decide)⟩), by
    unfold num
    dsimp only
    omega⟩

def xPart (p : Part) : Finset S4194304.Idx := (xwin (coordsV p.1 p.2.1) p.2.2).view.set
def oPart (p : Part) : Finset S32x2097152.Idx := (owin (coordsV p.1 p.2.1) p.2.2).view.set
theorem mem_xPart (p : Part) (z : S4194304.Idx) : z ∈ xPart p ↔ (z 0).val / 2048 = num p := mem_xwin _ _ z
theorem mem_oPart (p : Part) (z : S32x2097152.Idx) : z ∈ oPart p ↔ (z 0).val / 16 * 1024 + (z 1).val / 2048 = num p := mem_owin _ _ z

/-- Sets that a number tells apart are disjoint. -/
theorem disjoint_of_num {α T : Type} {A B : Finset α} (n : α → T) {a b : T} (hA : ∀ z ∈ A, n z = a) (hB : ∀ z ∈ B, n z = b) (h : a ≠ b) : Disjoint A B :=
  Finset.disjoint_left.mpr fun z h1 h2 => h ((hA z h1).symm.trans (hB z h2))

theorem xPart_disjoint : ∀ p ∈ (Finset.univ : Finset Part), ∀ q ∈ (Finset.univ : Finset Part), p ≠ q → Disjoint (xPart p) (xPart q) :=
  fun p _ q _ h => disjoint_of_num _ (fun z => (mem_xPart p z).mp) (fun z => (mem_xPart q z).mp) fun e => h (num_inj e)
theorem oPart_disjoint : ∀ p ∈ (Finset.univ : Finset Part), ∀ q ∈ (Finset.univ : Finset Part), p ≠ q → Disjoint (oPart p) (oPart q) :=
  fun p _ q _ h => disjoint_of_num _ (fun z => (mem_oPart p z).mp) (fun z => (mem_oPart q z).mp) fun e => h (num_inj e)
theorem cover_of_num {α : Type} [Fintype α] [DecidableEq α] (n : α → ℕ) (A : Part → Finset α) (hA : ∀ p z, z ∈ A p ↔ n z = num p) (hn : ∀ z, n z < 2048) :
    (Finset.univ : Finset Part).biUnion A = Finset.univ :=
  Finset.eq_univ_of_forall fun z => (num_surj (hn z)).elim fun p hp => Finset.mem_biUnion.mpr ⟨p, Finset.mem_univ _, (hA p z).mpr hp⟩
theorem xnum_lt (z : S4194304.Idx) : (z 0).val / 2048 < 2048 := by
  have hz : (z 0).val < 4194304 := (z 0).isLt
  omega
theorem onum_lt (z : S32x2097152.Idx) : (z 0).val / 16 * 1024 + (z 1).val / 2048 < 2048 := by
  have hz : (z 0).val < 32 := (z 0).isLt
  have hz1 : (z 1).val < 2097152 := (z 1).isLt
  omega
theorem xPart_cover : (Finset.univ : Finset Part).biUnion xPart = Finset.univ := cover_of_num _ xPart mem_xPart xnum_lt
theorem oPart_cover : (Finset.univ : Finset Part).biUnion oPart = Finset.univ := cover_of_num _ oPart mem_oPart onum_lt

theorem xslots_disjoint : ∀ s ∈ (Finset.univ : Finset (Fin 2)), ∀ t ∈ (Finset.univ : Finset (Fin 2)), s ≠ t → Disjoint (xslot s).view.set (xslot t).view.set :=
  fun s _ t _ h => disjoint_of_num _ (fun z => (mem_xslot s z).mp) (fun z => (mem_xslot t z).mp) fun e => h (Fin.ext e)
theorem oslots_disjoint : ∀ s ∈ (Finset.univ : Finset (Fin 2)), ∀ t ∈ (Finset.univ : Finset (Fin 2)), s ≠ t → Disjoint (oslot s).view.set (oslot t).view.set :=
  fun s _ t _ h => disjoint_of_num _ (fun z => (mem_oslot s z).mp) (fun z => (mem_oslot t z).mp) fun e => h (Fin.ext e)
theorem xslots_cover : (Finset.univ : Finset (Fin 2)).biUnion (fun s => (xslot s).view.set) = (Finset.univ : Finset S2x2048.Idx) :=
  Finset.eq_univ_of_forall fun z => Finset.mem_biUnion.mpr ⟨z 0, Finset.mem_univ _, (mem_xslot (z 0) z).mpr rfl⟩
theorem oslots_cover : (Finset.univ : Finset (Fin 2)).biUnion (fun s => (oslot s).view.set) = (Finset.univ : Finset S2x16x2048.Idx) :=
  Finset.eq_univ_of_forall fun z => Finset.mem_biUnion.mpr ⟨z 0, Finset.mem_univ _, (mem_oslot (z 0) z).mpr rfl⟩

variable (d : Dev nD) (L : grid0.Coords)

omit [FloatOps F] in
/-- A worker's buffer of inputs is its two slots. -/
theorem xslots_split (f : Buf (Elt F) ((tV d L).loc cc0_scratch0)) :
    ((tV d L).loc cc0_scratch0 ↦{fullShare} f : sProp 𝕄) ⊢ iprop(xsP d L 0 f ∗ xsP d L 1 f) := by
  have h : ((tV d L).loc cc0_scratch0 ↦{fullShare} f : sProp 𝕄) = bigSep Finset.univ fun s : Fin 2 => xsP d L s f := by
    refine Eq.trans ?_ (pointsTo_biUnion (ℓ := (tV d L).loc cc0_scratch0) Finset.univ (fun s => (xslot s).view.set) xslots_disjoint)
    rw [xslots_cover]
  rw [h, BI.bigSep_fin_two]
  exact .rfl
omit [FloatOps F] in
theorem oslots_split (f : Buf (Elt F) ((tV d L).loc cc0_scratch1)) :
    ((tV d L).loc cc0_scratch1 ↦{fullShare} f : sProp 𝕄) ⊢ iprop(osP d L 0 f ∗ osP d L 1 f) := by
  have h : ((tV d L).loc cc0_scratch1 ↦{fullShare} f : sProp 𝕄) = bigSep Finset.univ fun s : Fin 2 => osP d L s f := by
    refine Eq.trans ?_ (pointsTo_biUnion (ℓ := (tV d L).loc cc0_scratch1) Finset.univ (fun s => (oslot s).view.set) oslots_disjoint)
    rw [oslots_cover]
  rw [h, BI.bigSep_fin_two]
  exact .rfl
omit [FloatOps F] in
theorem xslots_join (f0 f1 : Buf (Elt F) ((tV d L).loc cc0_scratch0)) :
    iprop(xsP d L 0 f0 ∗ xsP d L 1 f1) ⊢ (iprop(∃ f, (tV d L).loc cc0_scratch0 ↦{fullShare} f) : sProp 𝕄) := by
  have h := pointsTo_biUnion_join (ℓ := (tV d L).loc cc0_scratch0) (q := fullShare) (Val := Elt F) (nD := nD) (Finset.univ : Finset (Fin 2))
    (fun s => (xslot s).view.set) ![f0, f1] f0 xslots_disjoint (Ix := HIx 1) (Name := ℕ) (U := UU) (Lvl := ℕ)
  rw [bigSep_univ_two, xslots_cover] at h
  refine (show iprop(xsP d L 0 f0 ∗ xsP d L 1 f1) ⊢ _ from h).trans ?_
  iintro ⟨%g, -, H⟩
  iexists g
  iexact H
omit [FloatOps F] in
theorem oslots_join (f0 f1 : Buf (Elt F) ((tV d L).loc cc0_scratch1)) :
    iprop(osP d L 0 f0 ∗ osP d L 1 f1) ⊢ (iprop(∃ f, (tV d L).loc cc0_scratch1 ↦{fullShare} f) : sProp 𝕄) := by
  have h := pointsTo_biUnion_join (ℓ := (tV d L).loc cc0_scratch1) (q := fullShare) (Val := Elt F) (nD := nD) (Finset.univ : Finset (Fin 2))
    (fun s => (oslot s).view.set) ![f0, f1] f0 oslots_disjoint (Ix := HIx 1) (Name := ℕ) (U := UU) (Lvl := ℕ)
  rw [bigSep_univ_two, oslots_cover] at h
  refine (show iprop(osP d L 0 f0 ∗ osP d L 1 f1) ⊢ _ from h).trans ?_
  iintro ⟨%g, -, H⟩
  iexists g
  iexact H
-- ==== Proof.Tile.lean ====
/- A worker's whole run: from its chunks of the input and of the array of rows, all its chunks done. -/
module

public import proofs.«01_k».proof.Proof.Parts

@[expose] public section

noncomputable section

namespace Cert.Spike

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (L : grid0.Coords) (X : S4194304.Idx → F .f32)

/-! ## A worker's own cells and buffers -/

abbrev cell0 : GSem nD τ sig := (tV d L, SemLoc.dma (cin 0).sem)
abbrev cell1 : GSem nD τ sig := (tV d L, SemLoc.dma (cin 1).sem)
abbrev cell2 : GSem nD τ sig := (tV d L, SemLoc.dma (cout 0).sem)
abbrev cell3 : GSem nD τ sig := (tV d L, SemLoc.dma (cout 1).sem)

theorem cell_own (c : SemLoc sig) (h : c.isScoped .scVector = true) : ((tV d L, c) : GSem nD τ sig) ∈ ownCells (tV d L) := mem_ownCells.mpr ⟨rfl, h⟩
theorem cell_ne {c c' : SemLoc sig} (h : c ≠ c') : ((tV d L, c) : GSem nD τ sig) ≠ (tV d L, c') := fun e => h (congrArg Prod.snd e)

/-- The cells besides the four. -/
abbrev otherCells : Finset (GSem nD τ sig) :=
  ((((ownCells (tV d L)).erase (cell0 d L)).erase (cell1 d L)).erase (cell2 d L)).erase (cell3 d L)
omit [FloatOps F] in
theorem ownSems0_V :
    (ownSems0 (tV d L) : sProp 𝕄)
      = iprop(inZ d L 0 ∗ inZ d L 1 ∗ outZ d L 0 ∗ outZ d L 1 ∗ bigSep (otherCells d L) fun g => semVal g 0) := by
  unfold SparseCore.Cfg.ownSems0
  rw [SparseCore.bigSep_erase' (cell_own d L (SemLoc.dma (cin 0).sem) (by decide)),
    SparseCore.bigSep_erase' (Finset.mem_erase.mpr ⟨cell_ne d L (by decide), cell_own d L (SemLoc.dma (cin 1).sem) (by decide)⟩),
    SparseCore.bigSep_erase' (Finset.mem_erase.mpr ⟨cell_ne d L (by decide), Finset.mem_erase.mpr ⟨cell_ne d L (by decide),
      cell_own d L (SemLoc.dma (cout 0).sem) (by decide)⟩⟩),
    SparseCore.bigSep_erase' (Finset.mem_erase.mpr ⟨cell_ne d L (by decide), Finset.mem_erase.mpr ⟨cell_ne d L (by decide), Finset.mem_erase.mpr
      ⟨cell_ne d L (by decide), cell_own d L (SemLoc.dma (cout 1).sem) (by decide)⟩⟩⟩)]

/-- The buffers besides the two. -/
abbrev otherBufs : Finset (DevRef τ sig) :=
  ((ownRefs (τ := τ) (.scVector (cV L) (jV L))).erase ((Proc.scVector (cV L) (jV L)).devRef cc0_scratch0)).erase ((Proc.scVector (cV L) (jV L)).devRef cc0_scratch1)
omit [FloatOps F] in
theorem ownBufs_V :
    (ownBufs (tV d L) : sProp 𝕄)
      = iprop((∃ f, (tV d L).loc cc0_scratch0 ↦{fullShare} f) ∗ (∃ f, (tV d L).loc cc0_scratch1 ↦{fullShare} f)
          ∗ bigSep (otherBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## A worker's run -/

theorem outSt_end (s : Fin 2) {n : ℕ} (hn : n = 62 + s.val) : OutSt d L X s 32 ⊢ OutFl d L X s (ck n) := by
  rw [outSt_pos d L X s (by decide), hn]
omit [FloatOps F] in
theorem inSt_start (s : Fin 2) {n : ℕ} (hn : n = 2 * 0 + s.val) : InFl d L X s (ck n) ⊢ InSt d L X s 0 := by
  unfold InSt
  rw [if_pos (by decide), hn]
omit [FloatOps F] in
theorem inSt_end (s : Fin 2) :
    InSt d L X s 32 ⊢ iprop((∃ fx : Buf (Elt F) ((xslot s).view.loc (tV d L)), xsP d L s fx) ∗ inZ d L s) := by
  unfold InSt
  rw [if_neg (by decide)]
theorem Dn_zero : (iprop(emp) : sProp 𝕄) ⊢ Dn d L X 0 := by
  unfold Dn
  rw [show (Finset.univ.filter fun g : Fin 64 => g.val < 0) = ∅ from rfl, bigSep_empty]
  exact .rfl

variable (O : CellTallies nD τ sig (HIx 1)) (W : Waits sig (HIx 1))

theorem owing_intro {W' : Waits sig (HIx 1)} (h : ∀ p ∈ W', p ∈ W ∨ p.2 = none) : (owes (tV d L) O W' : sProp 𝕄) ⊢ Owing d L O W := by
  unfold Owing
  iintro H
  iexists W'
  isplitr; swap; · iexact H
  ipureintro; exact h

/-- What a worker is given, and what it gives back. -/
def Task : sProp 𝕄 := iprop(Xs d L X 0 ∗ Os (F := F) d L 0)

/-- A worker's body: both scratch buffers and its four cells in, all 64 chunks done, buffers and cells back. -/
theorem tile_run (fx : Buf (Elt F) ((tV d L).loc cc0_scratch0)) (fo : Buf (Elt F) ((tV d L).loc cc0_scratch1)) :
    iprop(Transfers.MayWaits (tV d L) (default : HIx 1) O ∗ Task d L X ∗ ((tV d L).loc cc0_scratch0 ↦{fullShare} fx) ∗ ((tV d L).loc cc0_scratch1 ↦{fullShare} fo)
        ∗ inZ d L 0 ∗ inZ d L 1 ∗ outZ d L 0 ∗ outZ d L 1 ∗ owes (tV d L) O W)
      ⊢ wp frame (wpE (defs₀ (F := F)) 𝒱₀ (tV d L) none) Set.univ
          (cc0__sc_body L xM (Memref.isWhole_whole _) oM (Memref.isWhole_whole _) xbM (Memref.isWhole_whole _) obM (Memref.isWhole_whole _) cc0_scratch2 cc0_scratch3)
          fun _ => iprop(Dn d L X 64 ∗ (∃ f, (tV d L).loc cc0_scratch0 ↦{fullShare} f) ∗ (∃ f, (tV d L).loc cc0_scratch1 ↦{fullShare} f)
            ∗ inZ d L 0 ∗ inZ d L 1 ∗ outZ d L 0 ∗ outZ d L 1 ∗ Owing d L O W) := by
  unfold Task
  rw [Xs_step d L X (n := 0) (by decide), Xs_step d L X (n := 0 + 1) (by decide)]
  iintro ⟨#Hmw, ⟨⟨Hw0, Hw1, HX⟩, HOs⟩, Hxb, Hob, Hi0, Hi1, Ho0, Ho1, HO⟩
  ihave Hxb := (xslots_split d L fx) $$ Hxb
  ihave Hob := (oslots_split d L fo) $$ Hob
  icases Hxb with ⟨Hx0, Hx1⟩
  icases Hob with ⟨Hs0, Hs1⟩
  sl_unfold [cc0__sc_body]
  sl_exec
  sl_for (inv1 d L) $$ [Hs0 Hs1]
  case region => exact step1 d L
  · unfold inv1
    isplitl [Hs0]
    · iexists fo; isplitr
      · ipureintro; exact Zeros.zero _ _
      · iexact Hs0
    · iexists fo; isplitr
      · ipureintro; exact Zeros.zero _ _
      · iexact Hs1
  iintro %_ HI
  unfold inv1
  icases HI with ⟨⟨%g0, %hg0, Hs0⟩, %g1, %hg1, Hs1⟩
  sl_exec
  have hz0 : Zeros 0 128 g0 := trips1_eq ▸ hg0
  have hz1 : Zeros 1 128 g1 := trips1_eq ▸ hg1
  ihave Hi0 := (inFl_intro d L X 0 (ck 0) (SemLoc.dma ⟨0, _⟩) rfl fx (tile_run.sl.dma0 L X) rfl) $$ Hi0
  ihave Hi1 := (inFl_intro d L X 1 (ck 1) (SemLoc.dma ⟨1, _⟩) rfl fx (tile_run.sl.dma0_1 L X) rfl) $$ Hi1
  ihave HB0 := (blank_intro d L 0 g0 hz0) $$ Hs0
  ihave HB1 := (blank_intro d L 1 g1 hz1) $$ Hs1
  sl_for (pairInv d L X O W) $$ [HX HOs Ho0 Ho1 HO HB0 HB1 Hi0 Hi1]
  case region => exact pairStep d L X O W _
  · unfold pairInv
    isplitr; · iexact Hmw
    isplitl [Hi0]; · iapply (inSt_start d L X 0 (n := 0) rfl) $$ Hi0
    isplitl [Hi1]; · iapply (inSt_start d L X 1 (n := 1) rfl) $$ Hi1
    isplitl [HB0 Ho0]; · rw [outSt_zero _ _ _ _ rfl]; isplitl [HB0] <;> iassumption
    isplitl [HB1 Ho1]; · rw [outSt_zero _ _ _ _ rfl]; isplitl [HB1] <;> iassumption
    isplitl [HX]; · iexact HX
    isplitl [HOs]; · iexact HOs
    isplitr; · iapply (Dn_zero d L X); iempintro
    iapply (owing_intro d L O W fun p hp => .inl hp) $$ HO
  iintro %_ HI
  ihave HI := (show pairInv d L X O W k0_t2_loop.trips _ ⊢ pairInv d L X O W 32 () from by rw [trips2_eq]) $$ HI
  unfold pairInv
  icases HI with ⟨-, Hi0, Hi1, Ho0, Ho1, -, -, HD, HO⟩
  ihave Hi0 := (inSt_end d L X 0) $$ Hi0
  ihave Hi1 := (inSt_end d L X 1) $$ Hi1
  icases Hi0 with ⟨⟨%x0, Hx0⟩, Hi0⟩
  icases Hi1 with ⟨⟨%x1, Hx1⟩, Hi1⟩
  ihave Ho0 := (outSt_end d L X 0 (n := 62) rfl) $$ Ho0
  ihave Ho1 := (outSt_end d L X 1 (n := 63) rfl) $$ Ho1
  unfold OutFl Owing
  icases Ho0 with ⟨%y0, %hy0, Ho0⟩
  icases Ho1 with ⟨%y1, %hy1, Ho1⟩
  icases HO with ⟨%W', %hW', HO⟩
  sl_exec
  sl_step
  isplitl [HD Ho0_dst Ho1_dst]
  · rw [Dn_step d L X (n := 63) (by decide), Dn_step d L X (n := 62) (by decide)]
    isplitl [Ho1_dst]; · unfold Done; iexact Ho1_dst
    isplitl [Ho0_dst]; · unfold Done; iexact Ho0_dst
    iexact HD
  isplitl [Hx0 Hx1]
  · iapply (xslots_join d L x0 x1)
    isplitl [Hx0] <;> iassumption
  isplitl [Ho0_src Ho1_src]
  · iapply (oslots_join d L y0 y1)
    isplitl [Ho0_src] <;> iassumption
  isplitl [Hi0]; · iexact Hi0
  isplitl [Hi1]; · iexact Hi1
  isplitl [Ho0]; · iapply (outZ0 d L) $$ Ho0
  isplitl [Ho1]; · iapply (outZ1 d L) $$ Ho1
  iexists _
  isplitr; swap; · iexact HO
  ipureintro; exact owing_wait W (owing_wait W hW' _) _

/-- The same with a worker's scoped buffers and semaphores as the launch keeps them. -/
theorem tile_body (hO : ∀ g, O g none = 0) :
    iprop(levAts (K (F := F)).L (K (F := F)).lev ∗ emp ∗ Task d L X ∗ scopedBufs (tV d L) ∗ scopedSems0 (tV d L) ∗ owes (tV d L) O W)
      ⊢ wp frame (wpE (defs₀ (F := F)) 𝒱₀ (tV d L) none) Set.univ
          (cc0__sc_body L xM (Memref.isWhole_whole _) oM (Memref.isWhole_whole _) xbM (Memref.isWhole_whole _) obM (Memref.isWhole_whole _) cc0_scratch2 cc0_scratch3)
          fun _ => iprop(Dn d L X 64 ∗ scopedBufs (tV d L) ∗ scopedSems0 (tV d L)
            ∗ ∃ W', ⌜∀ p ∈ W', p ∈ W ∨ p.2 = none ∨ p.2 = some (0 : Fin 1)⌝ ∗ owes (tV d L) O W') := by
  rw [(K (F := F)).scopedBufs_V facts d (cV L) (jV L), SparseCore.Cfg.scopedSems0_V (Val := Elt F) d (cV L) (jV L), ownSems0_V, ownBufs_V]
  iintro ⟨#Hlv, -, HT, ⟨⟨%fx, Hx⟩, ⟨%fo, Ho⟩, Hbufs⟩, ⟨Hi0, Hi1, Ho0, Ho1, Hsems⟩, HO⟩
  ihave Hmw := (show levAts (K (F := F)).L (K (F := F)).lev ⊢ Transfers.MayWaits (tV d L) (default : HIx 1) O from
    (K (F := F)).mayWaits_none (thr := tV d L) hO) $$ Hlv
  iapply (exec_cut_last frame (wpE (defs₀ (F := F)) 𝒱₀ (tV d L) none) Set.univ (tile_run d L X O W fx fo)) $$ [Hmw HT Hx Ho Hi0 Hi1 Ho0 Ho1 HO]
  · isplitl [Hmw]; · iexact Hmw
    isplitl [HT]; · iexact HT
    isplitl [Hx]; · iexact Hx
    isplitl [Ho]; · iexact Ho
    isplitl [Hi0]; · iexact Hi0
    isplitl [Hi1]; · iexact Hi1
    isplitl [Ho0]; · iexact Ho0
    isplitl [Ho1] <;> iassumption
  unfold Owing
  iintro %_ ⟨HD, Hx, Ho, Hi0, Hi1, Ho0, Ho1, %W', %hW', HO⟩
  isplitl [HD]; · iexact HD
  isplitl [Hx Ho Hbufs]
  · isplitl [Hx]; · iexact Hx
    isplitl [Ho] <;> iassumption
  isplitl [Hi0 Hi1 Ho0 Ho1 Hsems]
  · isplitl [Hi0]; · iexact Hi0
    isplitl [Hi1]; · iexact Hi1
    isplitl [Ho0]; · iexact Ho0
    isplitl [Ho1] <;> iassumption
  iexists W'
  isplitr; swap; · iexact HO
  ipureintro; exact fun p hp => (hW' p hp).imp_right .inl

end Cert.Spike
-- ==== Proof.Launch.lean ====
/- What the call hands each worker and takes back, and the workers' obligations. -/
module

public import proofs.«01_k».proof.Proof.Tile

@[expose] public section

noncomputable section

namespace Cert.Spike

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-! ## The launch's obligation of a worker -/

variable (XX : Dev nD → S4194304.Idx → F .f32)

theorem defs₀_vector (c : Fin τ.nSC) (s : Fin τ.nSub) :
    defs₀ (F := F) (.scVector c s) 0 ()
      = SparseCore.onTile hcore0 hsub0 (fun c s => cc0__sc_body (coordsV c s)
          xM (Memref.isWhole_whole _) oM (Memref.isWhole_whole _) xbM (Memref.isWhole_whole _) obM (Memref.isWhole_whole _) cc0_scratch2 cc0_scratch3) ⟨⟩ c s := rfl

/-- What one SparseCore's workers take together, and what they give back. -/
def Tasks (d : Dev nD) (c : Fin (grid0.bound 0)) (X : S4194304.Idx → F .f32) : sProp 𝕄 := bigSep (Finset.univ : Finset (Fin (grid0.bound 1))) fun i => Task d (coordsV c i) X
def Dones (d : Dev nD) (c : Fin (grid0.bound 0)) (X : S4194304.Idx → F .f32) : sProp 𝕄 := bigSep (Finset.univ : Finset (Fin (grid0.bound 1))) fun i => Dn d (coordsV c i) X 64

/-- The call gives each worker its chunks, and takes them back done. -/
def P : (K (F := F)).Pay (nD := nD) (Val := Elt F) (Name := ℕ) (U := UU) where
  st := fun q d c => match q with | 0 => Tasks d ⟨c.val, c.isLt⟩ (XX d)
  dn := fun q d c => match q with | 0 => Dones d ⟨c.val, c.isLt⟩ (XX d)
  go := fun q d c i => match q with | 0 => Task d (coordsV ⟨c.val, c.isLt⟩ ⟨i.val, i.isLt⟩) (XX d)
  td := fun q d c i => match q with | 0 => Dn d (coordsV ⟨c.val, c.isLt⟩ ⟨i.val, i.isLt⟩) (XX d) 64
  x := fun _ _ => iprop(emp)

instance xwP_storable (d : Dev nD) (L : grid0.Coords) (X : S4194304.Idx → F .f32) (g : Fin 64) : BI.Storable (upEmb : UEmb _ 𝕄) (xwP d L X g) := by
  exact (inferInstance : BI.Storable (upEmb : UEmb _ 𝕄) (pointsTo _ _ _ _))
instance owP_storable (d : Dev nD) (L : grid0.Coords) (g : Fin 64) (f) : BI.Storable (upEmb : UEmb _ 𝕄) (owP (F := F) d L g f) := inferInstance
instance Task_storable (d : Dev nD) (L : grid0.Coords) (X : S4194304.Idx → F .f32) : BI.Storable (upEmb : UEmb _ 𝕄) (Task d L X) := by
  unfold Task Xs Os
  have h (g : Fin 64) := xwP_storable d L X g
  infer_instance
instance Dn_storable (d : Dev nD) (L : grid0.Coords) (X : S4194304.Idx → F .f32) (n : ℕ) : BI.Storable (upEmb : UEmb _ 𝕄) (Dn d L X n) := by
  unfold Dn Done
  infer_instance
instance Tasks_storable (d : Dev nD) (c : Fin (grid0.bound 0)) (X : S4194304.Idx → F .f32) : BI.Storable (upEmb : UEmb _ 𝕄) (Tasks d c X) := by
  unfold Tasks
  infer_instance
instance Dones_storable (d : Dev nD) (c : Fin (grid0.bound 0)) (X : S4194304.Idx → F .f32) : BI.Storable (upEmb : UEmb _ 𝕄) (Dones d c X) := by
  unfold Dones
  infer_instance
attribute [local irreducible] Task Dn Tasks Dones

instance P_storable : (P (F := F) XX).IsStorable where
  st q d c := match q with | 0 => Tasks_storable d ⟨c.val, c.isLt⟩ (XX d)
  dn q d c := match q with | 0 => Dones_storable d ⟨c.val, c.isLt⟩ (XX d)
  go q d c i := match q with | 0 => Task_storable d (coordsV ⟨c.val, c.isLt⟩ ⟨i.val, i.isLt⟩) (XX d)
  td q d c i := match q with | 0 => Dn_storable d (coordsV ⟨c.val, c.isLt⟩ ⟨i.val, i.isLt⟩) (XX d) 64

/-- Each worker's dispatch runs the body. -/
theorem tileObl : (K (F := F)).TileObl (D (F := F)) 𝒱 (P XX) v₀ 0 := by
  intro d c i O W hO _ _
  simp only [show (P (F := F) XX).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body d (coordsV ⟨_, hci.1⟩ ⟨_, hci.2⟩) (XX d) O W hO

/-- A SparseCore's tasks are its workers' tasks. -/
theorem vecSplit : (K (F := F)).VecSplit' (P XX) 0 := by
  intro d c
  show Tasks d ⟨c.val, c.isLt⟩ (XX d) ⊢ |={Set.univ}=> iprop(
      (bigSep (Finset.univ : Finset (Fin (grid0.bound 1))) fun i => Task d (coordsV ⟨c.val, c.isLt⟩ i) (XX d))
      ∗ ((bigSep (Finset.univ : Finset (Fin (grid0.bound 1))) fun i => Dn d (coordsV ⟨c.val, c.isLt⟩ i) (XX d) 64) -∗ Dones d ⟨c.val, c.isLt⟩ (XX d)))
  unfold Tasks Dones
  iintro H
  imodintro
  isplitl [H]; · iexact H
  iintro H
  iexact H
-- ==== Proof.Main.lean ====
/- The program's run: a reshape, the call on all workers, a reshape; what it leaves in memory. -/
module

public import proofs.«01_k».proof.Proof.Launch

@[expose] public section

noncomputable section

namespace Cert.Spike

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]
local notation "𝕄" => MT nD τ sig (HIx 1) (Elt F) ℕ UU ℕ

/-! ## The arrays as the workers' chunks -/

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

omit [FloatOps F] in
/-- A family over the parts, by core, subcore and chunk. -/
theorem by_part (Φ : Part → sProp 𝕄) :
    bigSep Finset.univ Φ = bigSep Finset.univ fun c => bigSep Finset.univ fun s => bigSep Finset.univ fun g => Φ (c, s, g) := by
  rw [bigSep_univ_prod]
  exact bigSep_congr fun c _ => bigSep_univ_prod _

omit [FloatOps F] in
theorem x_parts (d : Dev nD) (X : S4194304.Idx → F .f32) :
    (xLoc d ↦{fullShare} X : sProp 𝕄)
      = bigSep Finset.univ fun c => bigSep Finset.univ fun s => bigSep Finset.univ fun g => xwP d (coordsV c s) X g := by
  refine (congrArg (fun I : Finset S4194304.Idx => (xLoc d ↦[I]{fullShare} X : sProp 𝕄)) xPart_cover.symm).trans ?_
  exact (pointsTo_biUnion (ℓ := xLoc d) Finset.univ xPart xPart_disjoint).trans (by_part _)
omit [FloatOps F] in
theorem o_parts (d : Dev nD) (f : S32x2097152.Idx → F .f32) :
    (oLoc d ↦{fullShare} f : sProp 𝕄)
      = bigSep Finset.univ fun c => bigSep Finset.univ fun s => bigSep Finset.univ fun g => owP d (coordsV c s) g f := by
  refine (congrArg (fun I : Finset S32x2097152.Idx => (oLoc d ↦[I]{fullShare} f : sProp 𝕄)) oPart_cover.symm).trans ?_
  exact (pointsTo_biUnion (ℓ := oLoc d) Finset.univ oPart oPart_disjoint).trans (by_part _)

omit [FloatOps F] in
theorem task_intro (d : Dev nD) (L : grid0.Coords) (X : S4194304.Idx → F .f32) (f : S32x2097152.Idx → F .f32) :
    iprop((bigSep Finset.univ fun g => xwP d L X g) ∗ (bigSep Finset.univ fun g => owP d L g f)) ⊢ Task d L X := by
  unfold Task Xs Os
  rw [Finset.filter_true_of_mem fun g _ => Nat.zero_le g.val]
  exact sep_mono BIBase.Entails.rfl (bigSep_mono fun g _ => exists_intro_trans (Ψ := fun f => owP d L g f) f BIBase.Entails.rfl)

theorem done_elim (d : Dev nD) (L : grid0.Coords) (X : S4194304.Idx → F .f32) :
    Dn d L X 64 ⊢ bigSep Finset.univ fun g => owP d L g (Gof X) := by
  unfold Dn
  rw [Finset.filter_true_of_mem fun g _ => g.isLt]
  exact .rfl

/-- The two arrays give the tasks. -/
theorem tasks_intro (d : Dev nD) (X : S4194304.Idx → F .f32) (f : S32x2097152.Idx → F .f32) :
    iprop((xLoc d ↦{fullShare} X) ∗ (oLoc d ↦{fullShare} f)) ⊢ (bigSep Finset.univ fun c => Tasks d c X : sProp 𝕄) := by
  rw [x_parts, o_parts]
  refine (Transfers.bigSep_sep_in _ _ _).trans (bigSep_mono fun c _ => ?_)
  unfold Tasks
  exact (Transfers.bigSep_sep_in _ _ _).trans (bigSep_mono fun s _ => task_intro d (coordsV c s) X f)

/-- The tasks done give the array of rows. -/
theorem dones_elim (d : Dev nD) (X : S4194304.Idx → F .f32) :
    (bigSep Finset.univ fun c => Dones d c X : sProp 𝕄) ⊢ oLoc d ↦{fullShare} (Gof X) := by
  rw [o_parts]
  refine bigSep_mono fun c _ => ?_
  unfold Dones
  exact bigSep_mono fun s _ => done_elim d (coordsV c s) X

/-! ## The launch: nothing of the kernel's own beside the handshakes -/

abbrev EH : Emb UH (MT nD τ sig (HIx 1) (Elt F) ℕ UU ℕ) := embL

variable (m : (ℓ : Loc nD τ sig) → Buf (Elt F) ℓ) (ρ : Dev nD → PrngReg)

/-- The input as the workers see it, and the result. -/
def Xin (d : Dev nD) : S4194304.Idx → F .f32 := shapeCast S4194304 (m (aLoc d) : S2x2048x1024.Idx → F .f32) shapeCasts_S2x2048x1024_S4194304
def Rout (d : Dev nD) : S2x16x2048x1024.Idx → F .f32 := shapeCast S2x16x2048x1024 (Gof (Xin m d)) shapeCasts_S32x2097152_S2x16x2048x1024

abbrev PX : (K (F := F)).Pay (nD := nD) (Val := Elt F) (Name := ℕ) (U := UU) := P (Xin m)

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PX m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (PX m).x q thr) = bigSep Finset.univ fun _ => iprop(emp) from
    bigSep_congr fun _ _ => bigSep_univ_of_subsingleton (0 : Fin 1), bigSep_nothing]
  iempintro

/-! ## @main: a reshape, the call, a reshape -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev flatten : HloOp τ sig (Elt F) := StableHlo.reshape main_arg0 main_v0 (rfl : (.f32 : EltTy) = .f32) shapeCasts_S2x2048x1024_S4194304
abbrev unflatten : HloOp τ sig (Elt F) := StableHlo.reshape main_v1 main_v2 (rfl : (.f32 : EltTy) = .f32) shapeCasts_S32x2097152_S2x16x2048x1024
abbrev arrays : Finset (DevRef τ sig) := {a', x', o', r'}

omit [FloatOps F] in
theorem held_arrays (d : Dev nD) (W : Valuation τ sig (Elt F)) :
    (held (T d) arrays W : sProp 𝕄)
      = iprop((aLoc d ↦{fullShare} W a') ∗ (xLoc d ↦{fullShare} W x') ∗ (oLoc d ↦{fullShare} W o') ∗ rLoc d ↦{fullShare} W r') := by
  unfold held arrays
  rw [SparseCore.bigSep_insert' (by decide), SparseCore.bigSep_insert' (by decide), SparseCore.bigSep_insert' (by decide), bigSep_singleton]

omit [FloatOps F] in
theorem held_rows (d : Dev nD) (W : Valuation τ sig (Elt F)) :
    (held (T d) {o', r'} W : sProp 𝕄) = iprop((oLoc d ↦{fullShare} W o') ∗ rLoc d ↦{fullShare} W r') := by
  unfold held
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays' contents at the start, after the first reshape, after the call, and at the end. -/
def Vstart (d : Dev nD) : Valuation τ sig (Elt F) := fun b => m (d, b)
def Vflat (d : Dev nD) : Valuation τ sig (Elt F) := (flatten (F := F)).result (Vstart m d)
def Vrows (d : Dev nD) : Valuation τ sig (Elt F) := Function.update (Vflat m d) o' (Gof (Xin m d))
def Vend (d : Dev nD) : Valuation τ sig (Elt F) := (unflatten (F := F)).result (Vrows m d)

omit [FloatOps F] in
theorem Vflat_x (d : Dev nD) : Vflat m d x' = Xin m d := StableHlo.reshape_result _ _ _ _ _ _ _
omit [FloatOps F] in
theorem Vflat_a (d : Dev nD) : Vflat m d a' = m (aLoc d) :=
  (flatten (F := F)).result_of_not_mem _ (show a' ∉ ({x'} : Finset (DevRef τ sig)) by decide)
theorem Vrows_o (d : Dev nD) : Vrows m d o' = Gof (Xin m d) := Function.update_self _ _ _
theorem Vrows_ne (d : Dev nD) {b : DevRef τ sig} (h : b ≠ o') : Vrows m d b = Vflat m d b := Function.update_of_ne h _ _
theorem Vend_r (d : Dev nD) : Vend m d r' = Rout m d :=
  (StableHlo.reshape_result _ _ _ _ _ _ _).trans (congrArg (fun G : S32x2097152.Idx → F .f32 => shapeCast S2x16x2048x1024 G shapeCasts_S32x2097152_S2x16x2048x1024) (Vrows_o m d))

omit [FloatOps F] in
theorem flatten_bufs : (flatten (F := F)).bufs ⊆ arrays := show ({a', x'} : Finset (DevRef τ sig)) ⊆ arrays by decide
omit [FloatOps F] in
theorem unflatten_bufs : (unflatten (F := F)).bufs ⊆ {o', r'} := show ({o', r'} : Finset (DevRef τ sig)) ⊆ {o', r'} by decide

attribute [local irreducible] Task Dn Tasks Dones

/-- What the call takes and what it gives back. -/
theorem st_intro (d : Dev nD) (f : S32x2097152.Idx → F .f32) :
    iprop((xLoc d ↦{fullShare} Xin m d) ∗ (oLoc d ↦{fullShare} f)) ⊢ (bigSep Finset.univ fun c : Fin ((K (F := F)).nCore 0) => (PX m).st 0 d c : sProp 𝕄) :=
  tasks_intro d (Xin m d) f
theorem dn_elim (d : Dev nD) :
    (bigSep Finset.univ fun c : Fin ((K (F := F)).nCore 0) => (PX m).dn 0 d c : sProp 𝕄) ⊢ oLoc d ↦{fullShare} (Gof (Xin m d)) :=
  dones_elim d (Xin m d)

/-- @main on the TensorCore: the input at its launch contents, and the result. -/
abbrev FIN (d : Dev nD) : sProp 𝕄 := iprop((aLoc d ↦{fullShare} m (aLoc d)) ∗ rLoc d ↦{fullShare} Rout m d)

/-- @main's run on one device. -/
theorem hmain (κ : GSem nD τ sig → ℕ) (d : Dev nD) :
    iprop((K (F := F)).ctx EH (PX m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrays (Vstart m d) by rw [unscopedBufs_eq, held_arrays]; rfl]
  simp only [main, wp_bind, wp_pure]
  iintro ⟨#Hctx, Hst, ⟨Hb, Hheld, Hts, -⟩, -⟩
  iapply (wp_hlo_within 𝒱 (SparseCore.T d) none Set.univ (op := flatten) (S := arrays) flatten_bufs (V := Vstart m d)) $$ [Hb Hheld]
  · isplitl [Hb] <;> iassumption
  iintro ⟨Hb, Hheld⟩
  rw [wp_ret]; imodintro
  ihave Hh := (show (held (T d) arrays ((flatten (F := F)).result (Vstart m d)) : sProp 𝕄) ⊢ _ from Entails.of_eq (held_arrays (F := F) d (Vflat m d))) $$ Hheld
  icases Hh with ⟨Ha, Hx, Ho, Hr⟩
  ihave Hx := (Entails.of_eq (congrArg (fun X : S4194304.Idx → F .f32 => (xLoc d ↦{fullShare} X : sProp 𝕄)) (Vflat_x m d))) $$ Hx
  iapply ((K (F := F)).wp_run (D (F := F)) 𝒱 (EH := EH) (P := PX m) κ d 0) $$ [Hst Hx Ho Ha Hr Hb Hts]
  isplitr; · iexact Hctx
  isplitl [Hst]; · iexact Hst
  isplitl [Hx Ho]
  · iapply (st_intro m d _)
    isplitl [Hx]; · iexact Hx
    iexact Ho
  iintro ⟨Hst, Hdn⟩
  ihave Ho := (dn_elim m d) $$ Hdn
  iapply (wp_hlo_within 𝒱 (SparseCore.T d) none Set.univ (op := unflatten) (S := {o', r'}) unflatten_bufs (V := Vrows m d)) $$ [Hb Ho Hr]
  · isplitl [Hb]; · iexact Hb
    rw [held_rows, Vrows_o, Vrows_ne m d (show r' ≠ o' by decide)]
    isplitl [Ho] <;> iassumption
  iintro ⟨Hb, Hheld⟩
  ihave Hh := (show (held (T d) {o', r'} ((unflatten (F := F)).result (Vrows m d)) : sProp 𝕄) ⊢ _ from Entails.of_eq (held_rows (F := F) d (Vend m d))) $$ Hheld
  icases Hh with ⟨-, Hr⟩
  ihave Hr := (Entails.of_eq (congrArg (fun X : S2x16x2048x1024.Idx → F .f32 => (rLoc d ↦{fullShare} X : sProp 𝕄)) (Vend_r m d))) $$ Hr
  ihave Ha := (Entails.of_eq (congrArg (fun X : S2x2048x1024.Idx → F .f32 => (aLoc d ↦{fullShare} X : sProp 𝕄)) (Vflat_a m d))) $$ Ha
  rw [wp_ret]; imodintro; imodintro
  isplitl [Hst]; · iexact Hst
  isplitr [Hb Hts]
  · isplitl [Ha] <;> iassumption
  isplitl [Hb] <;> iassumption

def fq (d : Dev nD) (s' : Phys nD τ sig (Elt F)) : Prop := s'.mem.mem (aLoc d) = m (aLoc d) ∧ s'.mem.mem (rLoc d) = Rout m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := Rout m d)) $$ [HSI Hr]
  · isplitl [HSI] <;> iassumption
  icases H with %hr
  ipureintro; exact ⟨funext fun i => ha i (Finset.mem_univ i), funext fun i => hr i (Finset.mem_univ i)⟩

/-! ## The program's run -/

def QC : PUnit × MemSt nD τ sig (Elt F) → Prop :=
  fun r => (∀ c : Dev nD, r.2.mem (aLoc c) = m (aLoc c) ∧ r.2.mem (rLoc c) = Rout m c) ∧ r.2.sem = fun _ => 0

/-- Every execution ends with the input unchanged, the result `Rout`, and every semaphore counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PX m) (A := ∅) facts v₀
    (fun q hq => match q with | 0 => nomatch hq)
    (fun q _ => match q with | 0 => tileObl (Xin m))
    (fun q _ => match q with | 0 => SparseCore.Cfg.VecSplit.of_plain (vecSplit (Xin m)))
    m ρ main (fun _ => iprop(emp)) (FIN m) (u₀ (F := F)) (sep_elim_left.trans (hu₀ m)) (hmain m ρ) (fq m) (hfin m) (QC m) (fun _ h hz => ⟨h, hz⟩)

end Cert.Spike
-- ==== Proof.Reference.lean ====
/- The value of the reference: the scatter of ones writes 1 at time step `t` of element (b, s, d) exactly when `t` is
   the element's spike time, so the result at (b, t, s, d) is `spike` of that element at `t`. -/
module

public import proofs.«01_k».proof.Proof.Latency
public import proofs.«01_k».proof.Proof.Gen.ReferenceIdeal.Run
public import Idealize.ShloMosaic.Lib.Routing.OpsPair
public import Idealize.ShloMosaic.Lib.Pipeline.Value
public import Idealize.ShloMosaic.Lib.ValueIdxCoords
public import Idealize.ShloMosaic.Lib.ValueIdx
public import Idealize.ShloMosaic.Lib.StableHlo.Predicate

@[expose] public section

noncomputable section

namespace Cert.Spike

open Idealize.ShloMosaic Idealize.ShloMosaic.ValueIdx
open Cert.ReferenceIdeal

/-- A fold that writes one constant whenever an item qualifies. -/
theorem foldl_const {α β : Type} (P : β → Prop) [DecidablePred P] (v : α) (l : List β) (a : α) (Q : Prop) [Decidable Q]
    (hQ : (∃ n ∈ l, P n) ↔ Q) : l.foldl (fun a n => if P n then v else a) a = if Q then v else a := by
  have h0 : ∀ (l : List β) (a : α), (∃ n ∈ l, P n) → l.foldl (fun a n => if P n then v else a) a = v := by
    intro l
    induction l with
    | nil => rintro a ⟨n, hn, -⟩; cases hn
    | cons n l ih =>
      intro a h
      rw [List.foldl_cons]
      by_cases h' : ∃ n ∈ l, P n
      · exact ih _ h'
      · obtain ⟨q, hq, hp⟩ := h
        rcases List.mem_cons.mp hq with rfl | hq
        · rw [if_pos hp]
          clear ih hq
          induction l with
          | nil => rfl
          | cons r l ih =>
            rw [List.foldl_cons, if_neg fun e => h' ⟨r, List.mem_cons_self, e⟩]
            exact ih fun ⟨s, hs, e⟩ => h' ⟨s, List.mem_cons_of_mem _ hs, e⟩
        · exact absurd ⟨q, hq, hp⟩ h'
  have h1 : ∀ (l : List β) (a : α), (¬∃ n ∈ l, P n) → l.foldl (fun a n => if P n then v else a) a = a := by
    intro l
    induction l with
    | nil => intro a _; rfl
    | cons n l ih =>
      intro a h
      rw [List.foldl_cons, if_neg fun e => h ⟨n, List.mem_cons_self, e⟩]
      exact ih a fun ⟨s, hs, e⟩ => h ⟨s, List.mem_cons_of_mem _ hs, e⟩
  by_cases q : Q
  · rw [if_pos q, h0 l a (hQ.mpr q)]
  · rw [if_neg q, h1 l a fun e => q (hQ.mp e)]

/-- The index word `k` of update (b, s, d) sits at (b, s, d, k). -/
theorem siIdx_eq (b : Fin 2) (s : Fin 2048) (d : Fin 1024) (k : Fin 4) (h) :
    scatter_S2x16x2048x1024_S2x2048x1024x4_S2x2048x1024_n_0123_0123_3.siIdx (ix3 b s d) ⟨k.val, h⟩ = ix4 b s d k := by
  funext a
  match a with
  | ⟨0, _⟩ => rfl
  | ⟨1, _⟩ => rfl
  | ⟨2, _⟩ => rfl
  | ⟨3, _⟩ => rfl

/-- Update (b, s, d) lands where its four index words say. -/
theorem lands (idx : IVec S2x2048x1024x4 32) (b : Fin 2) (s : Fin 2048) (d : Fin 1024) (ι : S2x16x2048x1024.Idx) :
    scatter_S2x16x2048x1024_S2x2048x1024x4_S2x2048x1024_n_0123_0123_3.resultIdx? (ix3 b s d) idx = some ι
      ↔ ∀ k : Fin 4, (idx (ix4 b s d k)).toInt = ((ι k).val : Int) := by
  rw [Routing.resultIdx?_eq_some]
  refine forall_congr' fun k => ?_
  have hw : scatter_S2x16x2048x1024_S2x2048x1024x4_S2x2048x1024_n_0123_0123_3.window (ix3 b s d) k = 0 := by
    unfold ScatterDims.window
    rw [dif_neg fun h => (of_decide_eq_true (List.mem_filter.1 h).2)
      (by show k ∈ ([0, 1, 2, 3] : List (Fin 4)); fin_cases k <;> simp)]
  have hs : scatter_S2x16x2048x1024_S2x2048x1024x4_S2x2048x1024_n_0123_0123_3.start (ix3 b s d) idx k
      = (idx (ix4 b s d k)).toInt := by
    unfold ScatterDims.start
    rw [dif_pos (by show k ∈ ([0, 1, 2, 3] : List (Fin 4)); fin_cases k <;> simp)]
    rw [← siIdx_eq b s d k (by show k.val < 4; exact k.isLt)]
    congr 3
    show Fin.mk _ _ = Fin.mk _ _
    apply Fin.ext
    show List.idxOf k ([0, 1, 2, 3] : List (Fin 4)) = k.val
    fin_cases k <;> rfl
  rw [hw, hs, Nat.cast_zero, add_zero]

/-- Four columns joined along the last axis, read at (b, s, d, k). -/
theorem joined (x : Fin 4 → S2x2048x1024x1.Idx → BitVec 32) (h) (b : Fin 2) (s : Fin 2048) (d : Fin 1024) (k : Fin 4) :
    concatenate S2x2048x1024x4 3 [⟨S2x2048x1024x1, x 0⟩, ⟨S2x2048x1024x1, x 1⟩, ⟨S2x2048x1024x1, x 2⟩, ⟨S2x2048x1024x1, x 3⟩] h (ix4 b s d k)
      = x k (ix4 b s d 0) := by
  refine concatenate_apply_piece (3 : Fin S2x2048x1024x4.rank) _ h (ix4 b s d k) k.val (by simp) S2x2048x1024x1 (x k) (by fin_cases k <;> rfl) rfl k.val
    (by fin_cases k <;> rfl) (ix4 b s d 0) (fun a ha => ?_) rfl
  match a with
  | ⟨0, _⟩ => rfl
  | ⟨1, _⟩ => rfl
  | ⟨2, _⟩ => rfl
  | ⟨3, _⟩ => exact absurd rfl ha

/-- The clipped spike time of an element, as the reference writes it. -/
theorem clipped (x : EReal) (n : ℕ) (hn : n ≤ 10) (h : latency x = ((n : ℝ) : EReal)) :
    IntOp.minsi 15#32 (IntOp.maxsi 0#32 (Ideal.fptosi 32 (latency x))) = BitVec.ofNat 32 n := by
  rw [h, fptosi_nat n (by omega)]
  interval_cases n <;> decide

/-- The scatter of ones over zeros, by the four columns of words. -/
theorem scattered (x0 x1 x2 x3 : S2x2048x1024x1.Idx → BitVec 32) (h) (z o : EReal) (X : S2x2048x1024.Idx → EReal)
    (h0 : ∀ b s d, x0 (ix4 b s d 0) = BitVec.ofNat 32 b.val) (h1 : ∀ b s d, ∃ n : ℕ, n ≤ 10 ∧ latency (X (ix3 b s d)) = ((n : ℝ) : EReal) ∧ x1 (ix4 b s d 0) = BitVec.ofNat 32 n)
    (h2 : ∀ b s d, x2 (ix4 b s d 0) = BitVec.ofNat 32 s.val) (h3 : ∀ b s d, x3 (ix4 b s d 0) = BitVec.ofNat 32 d.val)
    (hz : z = 0) (ho : o = 1) (b : Fin 2) (t : Fin 16) (s : Fin 2048) (d : Fin 1024) :
    Host.scatter scatter_S2x16x2048x1024_S2x2048x1024x4_S2x2048x1024_n_0123_0123_3 (fun _ b => b) (fun _ => z)
      (concatenate S2x2048x1024x4 3 [⟨S2x2048x1024x1, x0⟩, ⟨S2x2048x1024x1, x1⟩, ⟨S2x2048x1024x1, x2⟩, ⟨S2x2048x1024x1, x3⟩] h)
      (fun _ => o) (ix4 b t s d) = spike (X (ix3 b s d)) t.val := by
  obtain ⟨n, hn, hl, hx⟩ := h1 b s d
  rw [Routing.scatter_at, spike_of hl, hz, ho]
  refine foldl_const _ _ _ _ _ ?_
  have key : ∀ (b' : Fin 2) (s' : Fin 2048) (d' : Fin 1024),
      scatter_S2x16x2048x1024_S2x2048x1024x4_S2x2048x1024_n_0123_0123_3.resultIdx? (ix3 b' s' d')
        (concatenate S2x2048x1024x4 3 [⟨S2x2048x1024x1, x0⟩, ⟨S2x2048x1024x1, x1⟩, ⟨S2x2048x1024x1, x2⟩, ⟨S2x2048x1024x1, x3⟩] h) = some (ix4 b t s d)
        ↔ b' = b ∧ (x1 (ix4 b' s' d' 0)).toInt = (t.val : Int) ∧ s' = s ∧ d' = d := by
    intro b' s' d'
    rw [lands]
    have hj := joined ![x0, x1, x2, x3] h b' s' d'
    simp only [Matrix.cons_val_zero, Matrix.cons_val_one, Matrix.cons_val] at hj
    simp only [hj]
    have e : ∀ (m : ℕ), m < 2 ^ 31 → (BitVec.ofNat 32 m).toInt = (m : Int) := StableHlo.Predicate.toInt_ofNat_small
    constructor
    · intro hk
      have k0 : (x0 (ix4 b' s' d' 0)).toInt = (b.val : Int) := hk 0
      have k1 : (x1 (ix4 b' s' d' 0)).toInt = (t.val : Int) := hk 1
      have k2 : (x2 (ix4 b' s' d' 0)).toInt = (s.val : Int) := hk 2
      have k3 : (x3 (ix4 b' s' d' 0)).toInt = (d.val : Int) := hk 3
      rw [h0, e _ (by omega)] at k0
      rw [h2, e _ (by omega)] at k2
      rw [h3, e _ (by omega)] at k3
      exact ⟨Fin.ext (Int.ofNat_inj.mp k0), k1, Fin.ext (Int.ofNat_inj.mp k2), Fin.ext (Int.ofNat_inj.mp k3)⟩
    · rintro ⟨rfl, k1, rfl, rfl⟩ k
      match k with
      | ⟨0, _⟩ => exact (congrArg BitVec.toInt (h0 _ _ _)).trans (e _ (by omega))
      | ⟨1, _⟩ => exact k1
      | ⟨2, _⟩ => exact (congrArg BitVec.toInt (h2 _ _ _)).trans (e _ (by omega))
      | ⟨3, _⟩ => exact (congrArg BitVec.toInt (h3 _ _ _)).trans (e _ (by omega))
  have en : (BitVec.ofNat 32 n).toInt = (n : Int) := StableHlo.Predicate.toInt_ofNat_small n (by omega)
  constructor
  · rintro ⟨q, -, hq⟩
    generalize S2x2048x1024.rowMajor.symm q = j at hq
    obtain ⟨b', s', d', rfl⟩ : ∃ (b' : Fin 2) (s' : Fin 2048) (d' : Fin 1024), j = ix3 b' s' d' := ⟨j 0, j 1, j 2, eq_ix3 j⟩
    rw [key] at hq
    obtain ⟨e0, e1, e2, e3⟩ := hq
    rw [e0, e2, e3, hx, en] at e1
    exact_mod_cast e1
  · intro hnt
    refine ⟨S2x2048x1024.rowMajor (ix3 b s d), List.mem_finRange _, ?_⟩
    rw [Equiv.symm_apply_apply, key]
    exact ⟨rfl, by rw [hx, en, hnt], rfl, rfl⟩

/-- A word that is a small natural number stays what it is when the reference wraps a negative one round. -/
theorem column (V : S2x2048x1024.Idx → BitVec 32) (N : BitVec 32) (n : ℕ) (hn : n < 2 ^ 31) (b : Fin 2) (s : Fin 2048) (d : Fin 1024)
    (h : V (ix3 b s d) = BitVec.ofNat 32 n) :
    broadcastInDim S2x2048x1024x1 ![0, 1, 2] Gen.bcast_S2x2048x1024_S2x2048x1024x1_0_1_2
      (select (cmpi .slt V (broadcastInDim S2x2048x1024 ![] Gen.bcast_S_S2x2048x1024 (constantI S_ 32 0#32)))
        (addi V (broadcastInDim S2x2048x1024 ![] Gen.bcast_S_S2x2048x1024 (constantI S_ 32 N))) V) (ix4 b s d 0)
      = BitVec.ofNat 32 n := by
  have hr : ∀ W : S2x2048x1024.Idx → BitVec 32,
      broadcastInDim S2x2048x1024x1 ![0, 1, 2] Gen.bcast_S2x2048x1024_S2x2048x1024x1_0_1_2 W (ix4 b s d 0) = W (ix3 b s d) := fun W =>
    congrArg W (funext fun a => match a with | ⟨0, _⟩ => rfl | ⟨1, _⟩ => rfl | ⟨2, _⟩ => rfl)
  rw [hr]
  show Scalar.select (IntOp.cmpi .slt (V (ix3 b s d)) 0#32) (V (ix3 b s d) + N) (V (ix3 b s d)) = _
  rw [h]
  exact Routing.wrap_of_lt _ _ (by rw [BitVec.toNat_ofNat]; omega)

/-- The three iotas along the axes of an element. -/
theorem iota_b (b : Fin 2) (s : Fin 2048) (d : Fin 1024) :
    broadcastInDim S2x2048x1024 ![0, 1, 2] Gen.bcast_S2x1x1_S2x2048x1024_0_1_2
      (shapeCast S2x1x1 (iotaInDim S2 32 0) Gen.shapeCasts_S2_S2x1x1) (ix3 b s d) = BitVec.ofNat 32 b.val := by
  show shapeCast S2x1x1 (iotaInDim S2 32 0) Gen.shapeCasts_S2_S2x1x1 (ix3 b 0 0) = _
  rw [shapeCast_apply _ _ _ (ix1 b) (by rw [Shape.rowMajor_val_one, Shape.rowMajor_val_three]; show b.val = (b.val * 1 + 0) * 1 + 0; omega)]
  rfl

theorem iota_s (b : Fin 2) (s : Fin 2048) (d : Fin 1024) :
    broadcastInDim S2x2048x1024 ![0, 1, 2] Gen.bcast_S1x2048x1_S2x2048x1024_0_1_2
      (shapeCast S1x2048x1 (iotaInDim S2048 32 0) Gen.shapeCasts_S2048_S1x2048x1) (ix3 b s d) = BitVec.ofNat 32 s.val := by
  show shapeCast S1x2048x1 (iotaInDim S2048 32 0) Gen.shapeCasts_S2048_S1x2048x1 (ix3 0 s 0) = _
  rw [shapeCast_apply _ _ _ (ix1 s) (by rw [Shape.rowMajor_val_one, Shape.rowMajor_val_three]; show s.val = (0 * 2048 + s.val) * 1 + 0; omega)]
  rfl

theorem iota_d (b : Fin 2) (s : Fin 2048) (d : Fin 1024) :
    broadcastInDim S2x2048x1024 ![0, 1, 2] Gen.bcast_S1x1x1024_S2x2048x1024_0_1_2
      (shapeCast S1x1x1024 (iotaInDim S1024 32 0) Gen.shapeCasts_S1024_S1x1x1024) (ix3 b s d) = BitVec.ofNat 32 d.val := by
  show shapeCast S1x1x1024 (iotaInDim S1024 32 0) Gen.shapeCasts_S1024_S1x1x1024 (ix3 0 0 d) = _
  rw [shapeCast_apply _ _ _ (ix1 d) (by rw [Shape.rowMajor_val_one, Shape.rowMajor_val_three]; show d.val = (0 * 1 + 0) * 1024 + d.val; omega)]
  rfl

/-- The reference's result at (b, t, s, d). -/
theorem reference_value (m : (ℓ : Loc nD τ sig) → Buf (Elt Ideal) ℓ) (c : Dev nD) (b : Fin 2) (t : Fin 16) (s : Fin 2048) (d : Fin 1024) :
    Value.res_main_v49 m c (ix4 b t s d) = spike ((m ((c.tc : Thread nD τ).loc main_arg0) : S2x2048x1024.Idx → EReal) (ix3 b s d)) t.val := by
  unfold Value.res_main_v49
  refine scattered _ _ _ _ _ (Ideal.ofBits .f32 0x00000000#32) (Ideal.ofBits .f32 0x3F800000#32) (m ((c.tc : Thread nD τ).loc main_arg0)) ?_ ?_ ?_ ?_ Ideal.ofBits_zero_f32 Ideal.ofBits_one_f32 b t s d
  · exact fun b s d => column _ _ _ (by omega) b s d (iota_b b s d)
  · intro b s d
    obtain ⟨n, hn, hl⟩ := latency_nat ((m ((c.tc : Thread nD τ).loc main_arg0) : S2x2048x1024.Idx → EReal) (ix3 b s d))
    refine ⟨n, hn, hl, column _ _ _ (by omega) b s d (Eq.trans ?_ (clipped _ n hn hl))⟩
    unfold latency sigm
    rw [← ofBits_ten, ← Ideal.ofBits_one_f32]
    rfl
  · exact fun b s d => column _ _ _ (by omega) b s d (iota_s b s d)
  · exact fun b s d => column _ _ _ (by omega) b s d (iota_d b s d)

end Cert.Spike

end
-- ==== Proof.Value.lean ====
/- The kernel's result over the extended reals, element by element, and that it is the reference's. -/
module

public import proofs.«01_k».proof.Proof.Main
public import proofs.«01_k».proof.Proof.Reference

@[expose] public section

noncomputable section

namespace Cert.Spike

open Idealize.ShloMosaic Idealize.ShloMosaic.ValueIdx
open Cert.KernelIdeal

/-- The kernel's result at (b, t, s, d). -/
theorem kernel_value (m : (ℓ : Loc nD τ sig) → Buf (Elt Ideal) ℓ) (c : Dev nD) (b : Fin 2) (t : Fin 16) (s : Fin 2048) (d : Fin 1024) :
    Rout m c (ix4 b t s d) = spike ((m (aLoc c) : S2x2048x1024.Idx → EReal) (ix3 b s d)) t.val := by
  have hb := b.isLt
  have ht := t.isLt
  have hs := s.isLt
  have hd := d.isLt
  unfold Rout
  rw [shapeCast_apply _ _ _ (ix2 (⟨16 * b.val + t.val, by omega⟩ : Fin 32) (⟨1024 * s.val + d.val, by omega⟩ : Fin 2097152)) (by
    rw [Shape.rowMajor_val_two, Shape.rowMajor_val_four]
    show (16 * b.val + t.val) * 2097152 + (1024 * s.val + d.val) = ((b.val * 16 + t.val) * 2048 + s.val) * 1024 + d.val
    omega)]
  unfold Gof
  show lane (F := Ideal) ((16 * b.val + t.val) % 16) (Xin m c (ix1 (⟨2097152 * ((16 * b.val + t.val) / 16) + (1024 * s.val + d.val), _⟩ : Fin 4194304))) = _
  rw [lane_ideal, show (16 * b.val + t.val) % 16 = t.val by omega]
  unfold Xin
  rw [shapeCast_apply _ _ _ (ix3 b s d) (by
    rw [Shape.rowMajor_val_three, Shape.rowMajor_val_one]
    show (b.val * 2048 + s.val) * 1024 + d.val = 2097152 * ((16 * b.val + t.val) / 16) + (1024 * s.val + d.val)
    omega)]

/-- From equal inputs the two results are equal. -/
theorem results_agree (m : (ℓ : Loc nD τ sig) → Buf (Elt Ideal) ℓ) (m' : (ℓ : Loc ReferenceIdeal.nD ReferenceIdeal.τ ReferenceIdeal.sig) → Buf (Elt Ideal) ℓ)
    (c : Dev nD) (h : (m' ((c.tc : Thread ReferenceIdeal.nD ReferenceIdeal.τ).loc ReferenceIdeal.main_arg0) : S2x2048x1024.Idx → EReal) = m (aLoc c)) :
    (ReferenceIdeal.Value.res_main_v49 m' c : S2x16x2048x1024.Idx → EReal) = Rout m c := by
  funext z
  refine (congrArg (ReferenceIdeal.Value.res_main_v49 m' c) (eq_ix4 z)).trans (Eq.trans ?_ (congrArg (Rout m c) (eq_ix4 z)).symm)
  exact (reference_value m' c (z 0) (z 1) (z 2) (z 3)).trans ((congrArg (fun X : S2x2048x1024.Idx → EReal => spike (X (ix3 (z 0) (z 2) (z 3))) (z 1).val) h).trans
    (kernel_value m c (z 0) (z 1) (z 2) (z 3)).symm)

end Cert.Spike

end
-- ==== Proof.lean ====
/- The claims: the kernel, its reading over the extended reals and the reference each run, and the last two agree. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.KernelIdeal.defs _ _).mono (fun _ h => ⟨fun c => (h.1 c).1, h.2⟩) (Cert.Spike.run_main (F := Bits) m ρ)

theorem frame_ideal : Cert.quiescent_KernelIdeal := fun m ρ _ =>
  (θ_run Cert.KernelIdeal.defs _ _).mono (fun _ h => ⟨fun c => (h.1 c).1, h.2⟩) (Cert.Spike.run_main (F := Ideal) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are, at (b, t, s, d), whether `t` is the spike time of the input at (b, s, d). -/
theorem algebraic : Cert.algebraic_KernelIdeal_ReferenceIdeal := fun m ρ m' ρ' _ hm =>
  ⟨fun c => Cert.Spike.Rout m c,
    (θ_run Cert.KernelIdeal.defs _ _).mono (fun _ h c => ⟨(h.1 c).2, (h.1 c).1⟩) (Cert.Spike.run_main (F := Ideal) m ρ),
    (θ_run Cert.ReferenceIdeal.defs _ _).mono (fun _ h c => ⟨(h c).1.trans (Cert.Spike.results_agree m m' c (hm c)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
